-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_maxima [hPre_finite_row_maxima : Cert.Pre_finite_row_maxima.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_maxima.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_maxima [hPre_finite_row_maxima : Cert.Pre_finite_row_maxima.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_maxima.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_row_maxima [hKernelIdeal : Cert.KernelIdeal.Facts] [hPre_finite_row_maxima : Cert.Pre_finite_row_maxima.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_maxima m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_row_maxima [hReferenceIdeal : Cert.ReferenceIdeal.Facts] [hPre_finite_row_maxima : Cert.Pre_finite_row_maxima.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_maxima m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_row_maxima [hKernelIdeal : Cert.KernelIdeal.Facts] [hReferenceIdeal : Cert.ReferenceIdeal.Facts] [hPre_finite_row_maxima : Cert.Pre_finite_row_maxima.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_maxima m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_row_maxima : Cert.Pre_finite_row_maxima.Facts),
    quiescent_Kernel (hKernel := hKernel)
    ∧ quiescent_KernelIdeal (hKernelIdeal := hKernelIdeal)
    ∧ quiescent_KernelIdeal_pre_finite_row_maxima (hKernelIdeal := hKernelIdeal) (hPre_finite_row_maxima := hPre_finite_row_maxima)
    ∧ quiescent_ReferenceIdeal (hReferenceIdeal := hReferenceIdeal)
    ∧ quiescent_ReferenceIdeal_pre_finite_row_maxima (hReferenceIdeal := hReferenceIdeal) (hPre_finite_row_maxima := hPre_finite_row_maxima)
    ∧ preserves_Kernel_KernelIdeal
    ∧ algebraic_KernelIdeal_ReferenceIdeal_pre_finite_row_maxima (hKernelIdeal := hKernelIdeal) (hReferenceIdeal := hReferenceIdeal) (hPre_finite_row_maxima := hPre_finite_row_maxima)
-- ==== Pre_finite_row_maxima.lean ====
abbrev S32x1000000 : Shape := ⟨2, ![32, 1000000]⟩
abbrev S_ : Shape := ⟨0, ![]⟩
abbrev S32 : Shape := ⟨1, ![32]⟩

class Facts : Prop where
  reducesTo_S32x1000000_S32_d1 : S32x1000000.ReducesTo [1] S32
  h_S_ : 0 < S_.numel
  bcast_S_S32 : S_.BroadcastsInDim S32 (![] : Fin 0 → Fin S32.rank)

variable [Facts]

def fn {F : FTy → Type} [FloatOps F] (main_arg0 : FVec F S32x1000000 .f32) : IVec S32 1 :=
  let main_cst : FVec F S_ .f32 := constant S_ .f32 0xFF800000#32
  let main_v0 : FVec F S32 .f32 := (fun x v => Host.reduce FloatOps.maximumf x v reducesTo_S32x1000000_S32_d1 h_S_) main_arg0 main_cst
  let main_cst_0 : FVec F S_ .f32 := constant S_ .f32 0xFF800000#32
  let main_v1 : FVec F S32 .f32 := broadcastInDim S32 ![] bcast_S_S32 main_cst_0
  let main_v2 : IVec S32 1 := cmpf .ogt main_v0 main_v1
  let main_cst_1 : FVec F S_ .f32 := constant S_ .f32 0x7F800000#32
  let main_v3 : FVec F S32 .f32 := broadcastInDim S32 ![] bcast_S_S32 main_cst_1
  let main_v4 : IVec S32 1 := cmpf .olt main_v0 main_v3
  let main_v5 : IVec S32 1 := andi main_v2 main_v4
  main_v5
-- ==== Kernel.lean ====
abbrev S32x1000000 : Shape := ⟨2, ![32, 1000000]⟩
abbrev S13x8x125504 : Shape := ⟨3, ![13, 8, 125504]⟩
abbrev S8x1 : Shape := ⟨2, ![8, 1]⟩
abbrev S13 : Shape := ⟨1, ![13]⟩
abbrev S1 : Shape := ⟨1, ![1]⟩
abbrev S_ : Shape := ⟨0, ![]⟩
abbrev S1x8x124928 : Shape := ⟨3, ![1, 8, 124928]⟩
abbrev S8x124928 : Shape := ⟨2, ![8, 124928]⟩
abbrev S1x8x576 : Shape := ⟨3, ![1, 8, 576]⟩
abbrev S8x576 : Shape := ⟨2, ![8, 576]⟩
abbrev S1x8x125504 : Shape := ⟨3, ![1, 8, 125504]⟩
abbrev S8x125504 : Shape := ⟨2, ![8, 125504]⟩
abbrev S8 : Shape := ⟨1, ![8]⟩

abbrev nBuf : Space → Nat
  | .hbm => 2
  | .vmem => 3
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .local _ .vmem, ⟨0, _⟩ => ⟨S13x8x125504, .f32⟩
  | .local _ .vmem, ⟨1, _⟩ => ⟨S8x1, .f32⟩
  | .local _ .vmem, ⟨2, _⟩ => ⟨S8x1, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c8_i32 : BitVec 32 := 8#32
  let v2 : BitVec 32 := Scalar.muli v1 c8_i32
  let c0_i32_4 : BitVec 32 := 0#32
  ![v2.toNat, 0]
def k0_off2 (i : grid0.Coords) (c0_i32_5 : BitVec 32) : Fin 2 → Nat :=
  let arg0 : BitVec 32 := BitVec.ofNat 32 (i 0).val
  let c2_i32 : BitVec 32 := 2#32
  let v0 : BitVec 32 := Scalar.muli arg0 c2_i32
  let v8 : BitVec 32 := Scalar.addi v0 c0_i32_5
  let c8_i32_6 : BitVec 32 := 8#32
  let v9 : BitVec 32 := Scalar.muli v8 c8_i32_6
  let c124928_i32 : BitVec 32 := 124928#32
  ![v9.toNat, 124928]
def k0_off3 (i : grid0.Coords) (c0_i32_10 : BitVec 32) : Fin 2 → Nat :=
  let arg0 : BitVec 32 := BitVec.ofNat 32 (i 0).val
  let c2_i32 : BitVec 32 := 2#32
  let v0 : BitVec 32 := Scalar.muli arg0 c2_i32
  let v15 : BitVec 32 := Scalar.addi v0 c0_i32_10
  let c8_i32_11 : BitVec 32 := 8#32
  let v16 : BitVec 32 := Scalar.muli v15 c8_i32_11
  let c249856_i32 : BitVec 32 := 249856#32
  ![v16.toNat, 249856]
def k0_off4 (i : grid0.Coords) (c0_i32_16 : BitVec 32) : Fin 2 → Nat :=
  let arg0 : BitVec 32 := BitVec.ofNat 32 (i 0).val
  let c2_i32 : BitVec 32 := 2#32
  let v0 : BitVec 32 := Scalar.muli arg0 c2_i32
  let v22 : BitVec 32 := Scalar.addi v0 c0_i32_16
  let c8_i32_17 : BitVec 32 := 8#32
  let v23 : BitVec 32 := Scalar.muli v22 c8_i32_17
  let c374784_i32 : BitVec 32 := 374784#32
  ![v23.toNat, 374784]
def k0_off5 (i : grid0.Coords) (c0_i32_21 : BitVec 32) : Fin 2 → Nat :=
  let arg0 : BitVec 32 := BitVec.ofNat 32 (i 0).val
  let c2_i32 : BitVec 32 := 2#32
  let v0 : BitVec 32 := Scalar.muli arg0 c2_i32
  let v29 : BitVec 32 := Scalar.addi v0 c0_i32_21
  let c8_i32_22 : BitVec 32 := 8#32
  let v30 : BitVec 32 := Scalar.muli v29 c8_i32_22
  let c499712_i32 : BitVec 32 := 499712#32
  ![v30.toNat, 499712]
def k0_off6 (i : grid0.Coords) (c0_i32_26 : BitVec 32) : Fin 2 → Nat :=
  let arg0 : BitVec 32 := BitVec.ofNat 32 (i 0).val
  let c2_i32 : BitVec 32 := 2#32
  let v0 : BitVec 32 := Scalar.muli arg0 c2_i32
  let v36 : BitVec 32 := Scalar.addi v0 c0_i32_26
  let c8_i32_27 : BitVec 32 := 8#32
  let v37 : BitVec 32 := Scalar.muli v36 c8_i32_27
  let c624640_i32 : BitVec 32 := 624640#32
  ![v37.toNat, 624640]
def k0_off7 (i : grid0.Coords) (c0_i32_31 : BitVec 32) : Fin 2 → Nat :=
  let arg0 : BitVec 32 := BitVec.ofNat 32 (i 0).val
  let c2_i32 : BitVec 32 := 2#32
  let v0 : BitVec 32 := Scalar.muli arg0 c2_i32
  let v43 : BitVec 32 := Scalar.addi v0 c0_i32_31
  let c8_i32_32 : BitVec 32 := 8#32
  let v44 : BitVec 32 := Scalar.muli v43 c8_i32_32
  let c749568_i32 : BitVec 32 := 749568#32
  ![v44.toNat, 749568]
def k0_off8 (i : grid0.Coords) (c0_i32_36 : BitVec 32) : Fin 2 → Nat :=
  let arg0 : BitVec 32 := BitVec.ofNat 32 (i 0).val
  let c2_i32 : BitVec 32 := 2#32
  let v0 : BitVec 32 := Scalar.muli arg0 c2_i32
  let v50 : BitVec 32 := Scalar.addi v0 c0_i32_36
  let c8_i32_37 : BitVec 32 := 8#32
  let v51 : BitVec 32 := Scalar.muli v50 c8_i32_37
  let c874496_i32 : BitVec 32 := 874496#32
  ![v51.toNat, 874496]
def k0_off9 (i : grid0.Coords) (c0_i32_41 : BitVec 32) : Fin 2 → Nat :=
  let arg0 : BitVec 32 := BitVec.ofNat 32 (i 0).val
  let c2_i32 : BitVec 32 := 2#32
  let v0 : BitVec 32 := Scalar.muli arg0 c2_i32
  let v57 : BitVec 32 := Scalar.addi v0 c0_i32_41
  let c8_i32_42 : BitVec 32 := 8#32
  let v58 : BitVec 32 := Scalar.muli v57 c8_i32_42
  let c999424_i32 : BitVec 32 := 999424#32
  ![v58.toNat, 999424]
@[reducible] def k0_t1_loop : Scf.Loop 32 :=
  let c0_i32_79 : BitVec 32 := 0#32
  let c48_i32 : BitVec 32 := 48#32
  let v99 : BitVec 32 := Scalar.addi c0_i32_79 c48_i32
  let c1_i32_80 : BitVec 32 := 1#32
  ⟨c0_i32_79, v99, c1_i32_80⟩
def k0_cond1 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32_124 : BitVec 32 := 24#32
  let v143 : BitVec 32 := Scalar.remsi arg10 c24_i32_124
  let c8_i32_125 : BitVec 32 := 8#32
  let v144 : BitVec 32 := Scalar.divsi v143 c8_i32_125
  let c0_i32_128 : BitVec 32 := 0#32
  let v149 : BitVec 1 := Scalar.cmpi .eq v144 c0_i32_128
  let v150 : BitVec 32 := Scalar.extui v149
  let c0_i32_129 : BitVec 32 := 0#32
  let v151 : BitVec 1 := Scalar.cmpi .ne v150 c0_i32_129
  v151

def k0_off10 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  ![v148.toNat]
def k0_off11 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  let c0_i32_138 : BitVec 32 := 0#32
  let c0_i32_139 : BitVec 32 := 0#32
  ![v148.toNat, 0, 0]
def k0_off12 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_134 : BitVec 32 := 8#32
  let v158 : BitVec 32 := Scalar.divsi v147 c8_i32_134
  let v160 : BitVec 32 := Scalar.addi v0 v158
  let c8_i32_136 : BitVec 32 := 8#32
  let v161 : BitVec 32 := Scalar.muli v160 c8_i32_136
  let c8_i32_135 : BitVec 32 := 8#32
  let v159 : BitVec 32 := Scalar.remsi v147 c8_i32_135
  let c124928_i32_137 : BitVec 32 := 124928#32
  let v162 : BitVec 32 := Scalar.muli v159 c124928_i32_137
  ![v161.toNat, v162.toNat]
def k0_cond2 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32_124 : BitVec 32 := 24#32
  let v143 : BitVec 32 := Scalar.remsi arg10 c24_i32_124
  let c8_i32_126 : BitVec 32 := 8#32
  let v145 : BitVec 32 := Scalar.remsi v143 c8_i32_126
  let c7_i32_140 : BitVec 32 := 7#32
  let v168 : BitVec 1 := Scalar.cmpi .eq v145 c7_i32_140
  let v169 : BitVec 32 := Scalar.extui v168
  let c0_i32_141 : BitVec 32 := 0#32
  let v170 : BitVec 1 := Scalar.cmpi .ne v169 c0_i32_141
  v170

def k0_off13 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  ![v148.toNat]
def k0_off14 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  let c0_i32_154 : BitVec 32 := 0#32
  let c124928_i32_155 : BitVec 32 := 124928#32
  ![v148.toNat, 0, 124928]
def k0_off15 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_151 : BitVec 32 := 8#32
  let v191 : BitVec 32 := Scalar.divsi v147 c8_i32_151
  let v193 : BitVec 32 := Scalar.addi v0 v191
  let c8_i32_153 : BitVec 32 := 8#32
  let v194 : BitVec 32 := Scalar.muli v193 c8_i32_153
  let c999424_i32_156 : BitVec 32 := 999424#32
  ![v194.toNat, 999424]
def k0_off16 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  let v171 : Index := Scalar.indexCast v148
  let c0 : Index := 0#32
  let c0_142 : Index := 0#32
  ![v171.toNat, 0, 0]
def k0_cond3 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32_124 : BitVec 32 := 24#32
  let v143 : BitVec 32 := Scalar.remsi arg10 c24_i32_124
  let c8_i32_125 : BitVec 32 := 8#32
  let v144 : BitVec 32 := Scalar.divsi v143 c8_i32_125
  let c1_i32_130 : BitVec 32 := 1#32
  let v152 : BitVec 1 := Scalar.cmpi .eq v144 c1_i32_130
  let v153 : BitVec 32 := Scalar.extui v152
  let c0_i32_131 : BitVec 32 := 0#32
  let v154 : BitVec 1 := Scalar.cmpi .ne v153 c0_i32_131
  v154

def k0_off17 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  let v158 : Index := Scalar.indexCast v148
  let c0 : Index := 0#32
  let c0_134 : Index := 0#32
  ![v158.toNat, 0, 0]
def k0_cond4 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32_124 : BitVec 32 := 24#32
  let v143 : BitVec 32 := Scalar.remsi arg10 c24_i32_124
  let c8_i32_125 : BitVec 32 := 8#32
  let v144 : BitVec 32 := Scalar.divsi v143 c8_i32_125
  let c2_i32_132 : BitVec 32 := 2#32
  let v155 : BitVec 1 := Scalar.cmpi .eq v144 c2_i32_132
  let v156 : BitVec 32 := Scalar.extui v155
  let c0_i32_133 : BitVec 32 := 0#32
  let v157 : BitVec 1 := Scalar.cmpi .ne v156 c0_i32_133
  v157

def k0_off18 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  let v158 : Index := Scalar.indexCast v148
  let c0 : Index := 0#32
  let c0_134 : Index := 0#32
  ![v158.toNat, 0, 0]
def k0_off19 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  ![v148.toNat]
def k0_off20 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_141 : BitVec 32 := 8#32
  let v174 : BitVec 32 := Scalar.divsi v147 c8_i32_141
  let v176 : BitVec 32 := Scalar.addi v0 v174
  let c8_i32_143 : BitVec 32 := 8#32
  let v177 : BitVec 32 := Scalar.muli v176 c8_i32_143
  let c8_i32_142 : BitVec 32 := 8#32
  let v175 : BitVec 32 := Scalar.remsi v147 c8_i32_142
  let c124928_i32_144 : BitVec 32 := 124928#32
  let v178 : BitVec 32 := Scalar.muli v175 c124928_i32_144
  ![v177.toNat, v178.toNat]
def k0_off21 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  let c0_i32_145 : BitVec 32 := 0#32
  let c0_i32_146 : BitVec 32 := 0#32
  ![v148.toNat, 0, 0]
def k0_cond5 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32_124 : BitVec 32 := 24#32
  let v143 : BitVec 32 := Scalar.remsi arg10 c24_i32_124
  let c8_i32_126 : BitVec 32 := 8#32
  let v145 : BitVec 32 := Scalar.remsi v143 c8_i32_126
  let c7_i32_147 : BitVec 32 := 7#32
  let v184 : BitVec 1 := Scalar.cmpi .eq v145 c7_i32_147
  let v185 : BitVec 32 := Scalar.extui v184
  let c0_i32_148 : BitVec 32 := 0#32
  let v186 : BitVec 1 := Scalar.cmpi .ne v185 c0_i32_148
  v186

def k0_off22 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  ![v148.toNat]
def k0_off23 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_151 : BitVec 32 := 8#32
  let v190 : BitVec 32 := Scalar.divsi v147 c8_i32_151
  let v192 : BitVec 32 := Scalar.addi v0 v190
  let c8_i32_153 : BitVec 32 := 8#32
  let v193 : BitVec 32 := Scalar.muli v192 c8_i32_153
  let c999424_i32_154 : BitVec 32 := 999424#32
  ![v193.toNat, 999424]
def k0_off24 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c13_i32 : BitVec 32 := 13#32
  let v148 : BitVec 32 := Scalar.remsi v147 c13_i32
  let c0_i32_155 : BitVec 32 := 0#32
  let c124928_i32_156 : BitVec 32 := 124928#32
  ![v148.toNat, 0, 124928]
def k0_cond6 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_149 : BitVec 32 := 5#32
  let v187 : BitVec 1 := Scalar.cmpi .sge v147 c5_i32_149
  let v188 : BitVec 32 := Scalar.extui v187
  let c0_i32_150 : BitVec 32 := 0#32
  let v189 : BitVec 1 := Scalar.cmpi .ne v188 c0_i32_150
  v189

def k0_off25 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  ![v191.toNat]
def k0_off26 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c8_i32_155 : BitVec 32 := 8#32
  let v194 : BitVec 32 := Scalar.divsi v190 c8_i32_155
  let v196 : BitVec 32 := Scalar.addi v0 v194
  let c8_i32_157 : BitVec 32 := 8#32
  let v197 : BitVec 32 := Scalar.muli v196 c8_i32_157
  let c8_i32_156 : BitVec 32 := 8#32
  let v195 : BitVec 32 := Scalar.remsi v190 c8_i32_156
  let c124928_i32_158 : BitVec 32 := 124928#32
  let v198 : BitVec 32 := Scalar.muli v195 c124928_i32_158
  ![v197.toNat, v198.toNat]
def k0_off27 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  let c0_i32_159 : BitVec 32 := 0#32
  let c0_i32_160 : BitVec 32 := 0#32
  ![v191.toNat, 0, 0]
def k0_cond7 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c8_i32_154 : BitVec 32 := 8#32
  let v193 : BitVec 32 := Scalar.remsi v190 c8_i32_154
  let c7_i32_161 : BitVec 32 := 7#32
  let v204 : BitVec 1 := Scalar.cmpi .eq v193 c7_i32_161
  let v205 : BitVec 32 := Scalar.extui v204
  let c0_i32_162 : BitVec 32 := 0#32
  let v206 : BitVec 1 := Scalar.cmpi .ne v205 c0_i32_162
  v206

def k0_off28 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  ![v191.toNat]
def k0_off29 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c8_i32_165 : BitVec 32 := 8#32
  let v211 : BitVec 32 := Scalar.divsi v190 c8_i32_165
  let v213 : BitVec 32 := Scalar.addi v0 v211
  let c8_i32_167 : BitVec 32 := 8#32
  let v214 : BitVec 32 := Scalar.muli v213 c8_i32_167
  let c999424_i32_168 : BitVec 32 := 999424#32
  ![v214.toNat, 999424]
def k0_off30 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  let c0_i32_169 : BitVec 32 := 0#32
  let c124928_i32_170 : BitVec 32 := 124928#32
  ![v191.toNat, 0, 124928]
def k0_cond8 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_163 : BitVec 32 := 8#32
  let v207 : BitVec 32 := Scalar.addi v147 c8_i32_163
  let c16_i32 : BitVec 32 := 16#32
  let v208 : BitVec 1 := Scalar.cmpi .slt v207 c16_i32
  let v209 : BitVec 32 := Scalar.extui v208
  let c0_i32_164 : BitVec 32 := 0#32
  let v210 : BitVec 1 := Scalar.cmpi .ne v209 c0_i32_164
  v210

def k0_off31 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  ![v191.toNat]
def k0_off32 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  let c0_i32_174 : BitVec 32 := 0#32
  let c0_i32_175 : BitVec 32 := 0#32
  ![v191.toNat, 0, 0]
def k0_off33 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_168 : BitVec 32 := 8#32
  let v214 : BitVec 32 := Scalar.addi v147 c8_i32_168
  let c8_i32_170 : BitVec 32 := 8#32
  let v216 : BitVec 32 := Scalar.divsi v214 c8_i32_170
  let v218 : BitVec 32 := Scalar.addi v0 v216
  let c8_i32_172 : BitVec 32 := 8#32
  let v219 : BitVec 32 := Scalar.muli v218 c8_i32_172
  let c8_i32_171 : BitVec 32 := 8#32
  let v217 : BitVec 32 := Scalar.remsi v214 c8_i32_171
  let c124928_i32_173 : BitVec 32 := 124928#32
  let v220 : BitVec 32 := Scalar.muli v217 c124928_i32_173
  ![v219.toNat, v220.toNat]
def k0_cond9 (k0_t1 : Fin k0_t1_loop.trips) : BitVec 1 :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_165 : BitVec 32 := 8#32
  let v211 : BitVec 32 := Scalar.addi v147 c8_i32_165
  let c8_i32_167 : BitVec 32 := 8#32
  let v213 : BitVec 32 := Scalar.remsi v211 c8_i32_167
  let c7_i32_169 : BitVec 32 := 7#32
  let v215 : BitVec 1 := Scalar.cmpi .eq v213 c7_i32_169
  let v226 : BitVec 32 := Scalar.extui v215
  let c0_i32_176 : BitVec 32 := 0#32
  let v227 : BitVec 1 := Scalar.cmpi .ne v226 c0_i32_176
  v227

def k0_off34 (k0_t1 : Fin k0_t1_loop.trips) : Fin 1 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  ![v191.toNat]
def k0_off35 (k0_t1 : Fin k0_t1_loop.trips) : Fin 3 → Nat :=
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c5_i32_151 : BitVec 32 := 5#32
  let v190 : BitVec 32 := Scalar.subi v147 c5_i32_151
  let c13_i32_152 : BitVec 32 := 13#32
  let v191 : BitVec 32 := Scalar.remsi v190 c13_i32_152
  let c0_i32_180 : BitVec 32 := 0#32
  let c124928_i32_181 : BitVec 32 := 124928#32
  ![v191.toNat, 0, 124928]
def k0_off36 (i : grid0.Coords) (k0_t1 : Fin k0_t1_loop.trips) : Fin 2 → Nat :=
  let arg0 : BitVec 32 := BitVec.ofNat 32 (i 0).val
  let c2_i32 : BitVec 32 := 2#32
  let v0 : BitVec 32 := Scalar.muli arg0 c2_i32
  let c0_i32_79 : BitVec 32 := 0#32
  let c1_i32_80 : BitVec 32 := 1#32
  let arg10 : BitVec 32 := Scf.iv c0_i32_79 c1_i32_80 k0_t1
  let c24_i32 : BitVec 32 := 24#32
  let v142 : BitVec 32 := Scalar.divsi arg10 c24_i32
  let c8_i32_127 : BitVec 32 := 8#32
  let v146 : BitVec 32 := Scalar.muli v142 c8_i32_127
  let c24_i32_124 : BitVec 32 := 24#32
  let v143 : BitVec 32 := Scalar.remsi arg10 c24_i32_124
  let c8_i32_126 : BitVec 32 := 8#32
  let v145 : BitVec 32 := Scalar.remsi v143 c8_i32_126
  let v147 : BitVec 32 := Scalar.addi v146 v145
  let c8_i32_168 : BitVec 32 := 8#32
  let v214 : BitVec 32 := Scalar.addi v147 c8_i32_168
  let c8_i32_177 : BitVec 32 := 8#32
  let v228 : BitVec 32 := Scalar.divsi v214 c8_i32_177
  let v230 : BitVec 32 := Scalar.addi v0 v228
  let c8_i32_179 : BitVec 32 := 8#32
  let v231 : BitVec 32 := Scalar.muli v230 c8_i32_179
  let c999424_i32_182 : BitVec 32 := 999424#32
  ![v231.toNat, 999424]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩

abbrev nBuf : Space → Nat
  | .hbm => 18
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S_, .f32⟩
  | .hbm, ⟨2, _⟩ => ⟨S32x1000000, .f32⟩
  | .hbm, ⟨3, _⟩ => ⟨S32x1000000, .f32⟩
  | .hbm, ⟨4, _⟩ => ⟨S_, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32x1, .f32⟩
  | .hbm, ⟨10, _⟩ => ⟨S32x1000000, .f32⟩
  | .hbm, ⟨11, _⟩ => ⟨S32x1000000, .f32⟩
  | .hbm, ⟨12, _⟩ => ⟨S32x1000000, .f32⟩
  | .hbm, ⟨13, _⟩ => ⟨S_, .f32⟩
  | .hbm, ⟨14, _⟩ => ⟨S32, .f32⟩
  | .hbm, ⟨15, _⟩ => ⟨S32x1, .f32⟩
  | .hbm, ⟨16, _⟩ => ⟨S32x1000000, .f32⟩
  | .hbm, ⟨17, _⟩ => ⟨S32x1000000, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Kernel.Views.lean ====
/-
  The kernel's buffers cut into the pieces its transfers move, and their names.

  A core `i` works through 16 jobs `j`: group `j / 8` of its two groups of eight rows, chunk `j % 8` of the row's
  eight chunks. A chunk is 124928 columns; the last chunk's job also carries the row's last 576 columns, its tail.
  Job `j` passes through slot `j % 13` of the scratch ring.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.Routed
public import Idealize.ShloMosaic.Lib.Ring
public import Idealize.ShloMosaic.Lib.Affine
public import Idealize.ShloMosaic.Lib.Tactic
public import Idealize.ShloMosaic.Lib.ValueLayout

@[expose] public section

set_option maxRecDepth 16384

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where job `j` of core `i` lives -/

abbrev Coord : Type := grid0.Coords

theorem core_lt (i : Coord) : (i 0).val < 2 := (i 0).isLt

/-- The first row of job `j` of core `i`. -/
def rowB (i : Coord) (j : Fin 16) : ℕ := ((i 0).val * 2 + j.val / 8) * 8
/-- The first column of job `j`. -/
def colB (j : Fin 16) : ℕ := j.val % 8 * 124928
/-- The ring slot of job `j`. -/
def slot (j : Fin 16) : Fin 13 := ⟨j.val % 13, Nat.mod_lt _ (by decide)⟩

theorem rowB_le (i : Coord) (j : Fin 16) : rowB i j + 8 ≤ 32 := by
  have := core_lt i; have := j.isLt; unfold rowB; omega
theorem colB_le (j : Fin 16) : colB j + 125504 ≤ 1000000 := by unfold colB; omega

abbrev blkOff (i : Coord) (j : Fin 16) : Fin 2 → ℕ := ![rowB i j, colB j]
abbrev tailOff (i : Coord) (j : Fin 16) : Fin 2 → ℕ := ![rowB i j, 999424]
abbrev slotOff (s : Fin 13) : Fin 3 → ℕ := ![s.val, 0, 0]
abbrev slotTailOff (s : Fin 13) : Fin 3 → ℕ := ![s.val, 0, 124928]
abbrev semOff (s : Fin 13) : Fin 1 → ℕ := ![s.val]

theorem blkOff_inb (i : Coord) (j : Fin 16) : ∀ a, blkOff i j a + S8x124928.size a ≤ S32x1000000.size a := by
  intro a; have := rowB_le i j; have := colB_le j
  match a with
  | ⟨0, _⟩ => show rowB i j + 8 ≤ 32; omega
  | ⟨1, _⟩ => show colB j + 124928 ≤ 1000000; omega
theorem tailOff_inb (i : Coord) (j : Fin 16) : ∀ a, tailOff i j a + S8x576.size a ≤ S32x1000000.size a := by
  intro a; have := rowB_le i j
  match a with
  | ⟨0, _⟩ => show rowB i j + 8 ≤ 32; omega
  | ⟨1, _⟩ => show 999424 + 576 ≤ 1000000; omega
theorem slotOff_inb (s : Fin 13) : ∀ a, slotOff s a + S1x8x124928.size a ≤ S13x8x125504.size a := by
  intro a; have := s.isLt
  match a with
  | ⟨0, _⟩ => show s.val + 1 ≤ 13; omega
  | ⟨1, _⟩ => show 0 + 8 ≤ 8; omega
  | ⟨2, _⟩ => show 0 + 124928 ≤ 125504; omega
theorem slotTailOff_inb (s : Fin 13) : ∀ a, slotTailOff s a + S1x8x576.size a ≤ S13x8x125504.size a := by
  intro a; have := s.isLt
  match a with
  | ⟨0, _⟩ => show s.val + 1 ≤ 13; omega
  | ⟨1, _⟩ => show 0 + 8 ≤ 8; omega
  | ⟨2, _⟩ => show 124928 + 576 ≤ 125504; omega
theorem slotWhole_inb (s : Fin 13) : ∀ a, slotOff s a + S1x8x125504.size a ≤ S13x8x125504.size a := by
  intro a; have := s.isLt
  match a with
  | ⟨0, _⟩ => show s.val + 1 ≤ 13; omega
  | ⟨1, _⟩ => show 0 + 8 ≤ 8; omega
  | ⟨2, _⟩ => show 0 + 125504 ≤ 125504; omega
theorem semOff_inb (s : Fin 13) : ∀ a, semOff s a + S1.size a ≤ S13.size a := by
  intro a; have := s.isLt
  match a with
  | ⟨0, _⟩ => show s.val + 1 ≤ 13; omega

/-! ## The memrefs the transfers name -/

abbrev xM : Memref sig .tc .hbm S32x1000000 .f32 := Memref.whole main_arg0
abbrev yM : Memref sig .tc .hbm S32x1000000 .f32 := Memref.whole main_v0
abbrev ringM : Memref sig .tc .vmem S13x8x125504 .f32 := Memref.whole cc0_scratch0
abbrev maxM : Memref sig .tc .vmem S8x1 .f32 := Memref.whole cc0_scratch1
abbrev sumM : Memref sig .tc .vmem S8x1 .f32 := Memref.whole cc0_scratch2

/-- A block of a whole array of the input's shape: rows and columns from `off`. -/
abbrev blk (M : Memref sig .tc .hbm S32x1000000 .f32) (off : Fin 2 → ℕ) (h : ∀ a, off a + S8x124928.size a ≤ S32x1000000.size a) :
    Memref sig .tc .hbm S8x124928 .f32 :=
  M.slice (Rect.unit (s := S32x1000000) off S8x124928.size h) (fun _ => rfl)
abbrev blkT (M : Memref sig .tc .hbm S32x1000000 .f32) (off : Fin 2 → ℕ) (h : ∀ a, off a + S8x576.size a ≤ S32x1000000.size a) :
    Memref sig .tc .hbm S8x576 .f32 :=
  M.slice (Rect.unit (s := S32x1000000) off S8x576.size h) (fun _ => rfl)
/-- A slot's 124928 main columns, and its 576 tail columns. -/
abbrev slM (off : Fin 3 → ℕ) (h : ∀ a, off a + S1x8x124928.size a ≤ S13x8x125504.size a) : Memref sig .tc .vmem S8x124928 .f32 :=
  (ringM.slice (Rect.unit (s := S13x8x125504) off S1x8x124928.size h) (fun _ => rfl)).squeeze S8x124928 squeezes_S1x8x124928_S8x124928
abbrev slT (off : Fin 3 → ℕ) (h : ∀ a, off a + S1x8x576.size a ≤ S13x8x125504.size a) : Memref sig .tc .vmem S8x576 .f32 :=
  (ringM.slice (Rect.unit (s := S13x8x125504) off S1x8x576.size h) (fun _ => rfl)).squeeze S8x576 squeezes_S1x8x576_S8x576
abbrev smAt (A : DmaSems sig S13) (off : Fin 1 → ℕ) (h : ∀ a, off a + S1.size a ≤ S13.size a) : DmaSems sig S_ :=
  (A.slice (Rect.unit (s := S13) off S1.size h)).squeeze S_ squeezes_S1_S_
/-- Semaphore `s` of a semaphore array. -/
abbrev sm (A : DmaSems sig S13) (s : Fin 13) : DmaSem sig := (smAt A (semOff s) (semOff_inb s)).sem

/-! ## The element sets -/

abbrev mS (s : Fin 13) : Finset S13x8x125504.Idx := (Rect.unit (s := S13x8x125504) (slotOff s) S1x8x124928.size (slotOff_inb s)).set
abbrev tS (s : Fin 13) : Finset S13x8x125504.Idx := (Rect.unit (s := S13x8x125504) (slotTailOff s) S1x8x576.size (slotTailOff_inb s)).set
abbrev wS (s : Fin 13) : Finset S13x8x125504.Idx := (Rect.unit (s := S13x8x125504) (slotOff s) S1x8x125504.size (slotWhole_inb s)).set
abbrev mH (i : Coord) (j : Fin 16) : Finset S32x1000000.Idx := (Rect.unit (s := S32x1000000) (blkOff i j) S8x124928.size (blkOff_inb i j)).set
abbrev tH (i : Coord) (j : Fin 16) : Finset S32x1000000.Idx := (Rect.unit (s := S32x1000000) (tailOff i j) S8x576.size (tailOff_inb i j)).set

theorem mem_mS (s : Fin 13) (y : S13x8x125504.Idx) : y ∈ mS s ↔ (y 0).val = s.val ∧ (y 2).val < 124928 := by
  rw [Rect.mem_set_unit]
  have h1 : (y 1).val < 8 := (y 1).isLt
  constructor
  · intro h
    have h0 : s.val ≤ (y 0).val ∧ (y 0).val < s.val + 1 := h 0
    have h2 : 0 ≤ (y 2).val ∧ (y 2).val < 0 + 124928 := h 2
    omega
  · rintro ⟨h0, h2⟩ a
    match a with
    | ⟨0, _⟩ => show s.val ≤ (y 0).val ∧ (y 0).val < s.val + 1; omega
    | ⟨1, _⟩ => show 0 ≤ (y 1).val ∧ (y 1).val < 0 + 8; omega
    | ⟨2, _⟩ => show 0 ≤ (y 2).val ∧ (y 2).val < 0 + 124928; omega
theorem mem_tS (s : Fin 13) (y : S13x8x125504.Idx) : y ∈ tS s ↔ (y 0).val = s.val ∧ 124928 ≤ (y 2).val := by
  rw [Rect.mem_set_unit]
  have h1 : (y 1).val < 8 := (y 1).isLt
  have h2 : (y 2).val < 125504 := (y 2).isLt
  constructor
  · intro h
    have h0 : s.val ≤ (y 0).val ∧ (y 0).val < s.val + 1 := h 0
    have h2 : 124928 ≤ (y 2).val ∧ (y 2).val < 124928 + 576 := h 2
    omega
  · rintro ⟨h0, h2⟩ a
    match a with
    | ⟨0, _⟩ => show s.val ≤ (y 0).val ∧ (y 0).val < s.val + 1; omega
    | ⟨1, _⟩ => show 0 ≤ (y 1).val ∧ (y 1).val < 0 + 8; omega
    | ⟨2, _⟩ => show 124928 ≤ (y 2).val ∧ (y 2).val < 124928 + 576; omega
theorem mem_wS (s : Fin 13) (y : S13x8x125504.Idx) : y ∈ wS s ↔ (y 0).val = s.val := by
  rw [Rect.mem_set_unit]
  have h1 : (y 1).val < 8 := (y 1).isLt
  have h2 : (y 2).val < 125504 := (y 2).isLt
  constructor
  · intro h
    have h0 : s.val ≤ (y 0).val ∧ (y 0).val < s.val + 1 := h 0
    omega
  · rintro h0 a
    match a with
    | ⟨0, _⟩ => show s.val ≤ (y 0).val ∧ (y 0).val < s.val + 1; omega
    | ⟨1, _⟩ => show 0 ≤ (y 1).val ∧ (y 1).val < 0 + 8; omega
    | ⟨2, _⟩ => show 0 ≤ (y 2).val ∧ (y 2).val < 0 + 125504; omega
theorem mem_mH (i : Coord) (j : Fin 16) (y : S32x1000000.Idx) :
    y ∈ mH i j ↔ (rowB i j ≤ (y 0).val ∧ (y 0).val < rowB i j + 8) ∧ colB j ≤ (y 1).val ∧ (y 1).val < colB j + 124928 := by
  rw [Rect.mem_set_unit]
  constructor
  · intro h; exact ⟨h 0, h 1⟩
  · rintro ⟨h0, h1⟩ a
    match a with
    | ⟨0, _⟩ => exact h0
    | ⟨1, _⟩ => exact h1
theorem mem_tH (i : Coord) (j : Fin 16) (y : S32x1000000.Idx) :
    y ∈ tH i j ↔ (rowB i j ≤ (y 0).val ∧ (y 0).val < rowB i j + 8) ∧ 999424 ≤ (y 1).val := by
  rw [Rect.mem_set_unit]
  have hy : (y 1).val < 1000000 := (y 1).isLt
  constructor
  · intro h
    have h1 : 999424 ≤ (y 1).val ∧ (y 1).val < 999424 + 576 := h 1
    exact ⟨h 0, h1.1⟩
  · rintro ⟨h0, h1⟩ a
    match a with
    | ⟨0, _⟩ => exact h0
    | ⟨1, _⟩ => show 999424 ≤ (y 1).val ∧ (y 1).val < 999424 + 576; omega

theorem disj_mt (s : Fin 13) : Disjoint (mS s) (tS s) := by
  rw [Finset.disjoint_left]; intro y h h'
  rw [mem_mS] at h; rw [mem_tS] at h'; omega
theorem union_mt (s : Fin 13) : mS s ∪ tS s = wS s := by
  ext y; rw [Finset.mem_union, mem_mS, mem_tS, mem_wS]; omega

theorem slM_set (s : Fin 13) (h) : (slM (slotOff s) h).view.set = mS s := (View.set_reshape _ _).trans (View.set_slice_whole _ _)
theorem slT_set (s : Fin 13) (h) : (slT (slotTailOff s) h).view.set = tS s := (View.set_reshape _ _).trans (View.set_slice_whole _ _)
theorem xblk_set (i : Coord) (j : Fin 16) (h) : (blk xM (blkOff i j) h).view.set = mH i j := View.set_slice_whole _ _
theorem xblkT_set (i : Coord) (j : Fin 16) (h) : (blkT xM (tailOff i j) h).view.set = tH i j := View.set_slice_whole _ _
theorem yblk_set (i : Coord) (j : Fin 16) (h) : (blk yM (blkOff i j) h).view.set = mH i j := View.set_slice_whole _ _
theorem yblkT_set (i : Coord) (j : Fin 16) (h) : (blkT yM (tailOff i j) h).view.set = tH i j := View.set_slice_whole _ _

/-! ## The printed offsets in closed form -/

/-- A trip of the kernel's loop: 48 of them. -/
abbrev Trip : Type := Fin k0_t1_loop.trips
theorem trips_eq : k0_t1_loop.trips = 48 := by decide +kernel
theorem trip_lt (k : Trip) : k.val < 48 := lt_of_lt_of_eq k.isLt trips_eq

/-- The job, the phase of trip `k`. -/
def jobOf (k : Trip) : Fin 16 := ⟨8 * (k.val / 24) + k.val % 8, by have := trip_lt k; omega⟩
def phase (k : Trip) : ℕ := k.val % 24 / 8
/-- The job five before trip `k`'s, and the one eight after it. -/
def jobPrev (k : Trip) : Fin 16 := ⟨8 * (k.val / 24) + k.val % 8 - 5, by have := trip_lt k; omega⟩
def jobNext (k : Trip) : Fin 16 := ⟨(8 * (k.val / 24) + k.val % 8 + 8) % 16, by omega⟩

theorem cond1_iff : ∀ k : Trip, k0_cond1 k = 1#1 ↔ phase k = 0 := by decide +kernel
theorem cond2_iff : ∀ k : Trip, k0_cond2 k = 1#1 ↔ k.val % 8 = 7 := by decide +kernel
theorem cond3_iff : ∀ k : Trip, k0_cond3 k = 1#1 ↔ phase k = 1 := by decide +kernel
theorem cond4_iff : ∀ k : Trip, k0_cond4 k = 1#1 ↔ phase k = 2 := by decide +kernel
theorem cond5_iff : ∀ k : Trip, k0_cond5 k = 1#1 ↔ k.val % 8 = 7 := by decide +kernel
theorem cond6_iff : ∀ k : Trip, k0_cond6 k = 1#1 ↔ 5 ≤ (jobOf k).val := by decide +kernel
theorem cond7_iff : ∀ k : Trip, 5 ≤ (jobOf k).val → (k0_cond7 k = 1#1 ↔ (jobOf k).val = 12) := by decide +kernel
theorem cond8_iff : ∀ k : Trip, 5 ≤ (jobOf k).val → (k0_cond8 k = 1#1 ↔ (jobOf k).val < 8) := by decide +kernel
theorem cond9_iff : ∀ k : Trip, 5 ≤ (jobOf k).val → (jobOf k).val < 8 → (k0_cond9 k = 1#1 ↔ (jobOf k).val = 7) := by decide +kernel

theorem off10_eq : ∀ k : Trip, k0_off10 k = semOff (slot (jobOf k)) :=
  fun k => funext ((by decide +kernel : ∀ k : Trip, ∀ a, k0_off10 k a = (semOff (slot (jobOf k))) a) k)
theorem off11_eq : ∀ k : Trip, k0_off11 k = slotOff (slot (jobOf k)) :=
  fun k => funext ((by decide +kernel : ∀ k : Trip, ∀ a, k0_off11 k a = (slotOff (slot (jobOf k))) a) k)
theorem off12_eq : ∀ (i : Coord) (k : Trip), k0_off12 i k = blkOff i (jobOf k) :=
  fun i k => funext ((by decide +kernel : ∀ (i : Coord) (k : Trip), ∀ a, k0_off12 i k a = (blkOff i (jobOf k)) a) i k)
theorem off13_eq : ∀ k : Trip, k0_off13 k = semOff (slot (jobOf k)) :=
  fun k => funext ((by decide +kernel : ∀ k : Trip, ∀ a, k0_off13 k a = (semOff (slot (jobOf k))) a) k)
theorem off14_eq : ∀ k : Trip, k0_off14 k = slotTailOff (slot (jobOf k)) :=
  fun k => funext ((by decide +kernel : ∀ k : Trip, ∀ a, k0_off14 k a = (slotTailOff (slot (jobOf k))) a) k)
theorem off15_eq : ∀ (i : Coord) (k : Trip), k0_off15 i k = tailOff i (jobOf k) :=
  fun i k => funext ((by decide +kernel : ∀ (i : Coord) (k : Trip), ∀ a, k0_off15 i k a = (tailOff i (jobOf k)) a) i k)
theorem off16_eq : ∀ k : Trip, k0_off16 k = slotOff (slot (jobOf k)) :=
  fun k => funext ((by decide +kernel : ∀ k : Trip, ∀ a, k0_off16 k a = (slotOff (slot (jobOf k))) a) k)
theorem off17_eq : ∀ k : Trip, k0_off17 k = slotOff (slot (jobOf k)) :=
  fun k => funext ((by decide +kernel : ∀ k : Trip, ∀ a, k0_off17 k a = (slotOff (slot (jobOf k))) a) k)
theorem off18_eq : ∀ k : Trip, k0_off18 k = slotOff (slot (jobOf k)) :=
  fun k => funext ((by decide +kernel : ∀ k : Trip, ∀ a, k0_off18 k a = (slotOff (slot (jobOf k))) a) k)
theorem off19_eq : ∀ k : Trip, k0_off19 k = semOff (slot (jobOf k)) :=
  fun k => funext ((by decide +kernel : ∀ k : Trip, ∀ a, k0_off19 k a = (semOff (slot (jobOf k))) a) k)
theorem off20_eq : ∀ (i : Coord) (k : Trip), k0_off20 i k = blkOff i (jobOf k) :=
  fun i k => funext ((by decide +kernel : ∀ (i : Coord) (k : Trip), ∀ a, k0_off20 i k a = (blkOff i (jobOf k)) a) i k)
theorem off21_eq : ∀ k : Trip, k0_off21 k = slotOff (slot (jobOf k)) :=
  fun k => funext ((by decide +kernel : ∀ k : Trip, ∀ a, k0_off21 k a = (slotOff (slot (jobOf k))) a) k)
theorem off22_eq : ∀ k : Trip, k0_off22 k = semOff (slot (jobOf k)) :=
  fun k => funext ((by decide +kernel : ∀ k : Trip, ∀ a, k0_off22 k a = (semOff (slot (jobOf k))) a) k)
theorem off23_eq : ∀ (i : Coord) (k : Trip), k0_off23 i k = tailOff i (jobOf k) :=
  fun i k => funext ((by decide +kernel : ∀ (i : Coord) (k : Trip), ∀ a, k0_off23 i k a = (tailOff i (jobOf k)) a) i k)
theorem off24_eq : ∀ k : Trip, k0_off24 k = slotTailOff (slot (jobOf k)) :=
  fun k => funext ((by decide +kernel : ∀ k : Trip, ∀ a, k0_off24 k a = (slotTailOff (slot (jobOf k))) a) k)
theorem off25_eq : ∀ k : Trip, 5 ≤ (jobOf k).val → k0_off25 k = semOff (slot (jobPrev k)) :=
  fun k h1 => funext ((by decide +kernel : ∀ k : Trip, 5 ≤ (jobOf k).val → ∀ a, k0_off25 k a = (semOff (slot (jobPrev k))) a) k h1)
theorem off26_eq : ∀ (i : Coord) (k : Trip), 5 ≤ (jobOf k).val → k0_off26 i k = blkOff i (jobPrev k) :=
  fun i k h1 => funext ((by decide +kernel : ∀ (i : Coord) (k : Trip), 5 ≤ (jobOf k).val → ∀ a, k0_off26 i k a = (blkOff i (jobPrev k)) a) i k h1)
theorem off27_eq : ∀ k : Trip, 5 ≤ (jobOf k).val → k0_off27 k = slotOff (slot (jobPrev k)) :=
  fun k h1 => funext ((by decide +kernel : ∀ k : Trip, 5 ≤ (jobOf k).val → ∀ a, k0_off27 k a = (slotOff (slot (jobPrev k))) a) k h1)
theorem off28_eq : ∀ k : Trip, 5 ≤ (jobOf k).val → k0_off28 k = semOff (slot (jobPrev k)) :=
  fun k h1 => funext ((by decide +kernel : ∀ k : Trip, 5 ≤ (jobOf k).val → ∀ a, k0_off28 k a = (semOff (slot (jobPrev k))) a) k h1)
theorem off29_eq : ∀ (i : Coord) (k : Trip), 5 ≤ (jobOf k).val → k0_off29 i k = tailOff i (jobPrev k) :=
  fun i k h1 => funext ((by decide +kernel : ∀ (i : Coord) (k : Trip), 5 ≤ (jobOf k).val → ∀ a, k0_off29 i k a = (tailOff i (jobPrev k)) a) i k h1)
theorem off30_eq : ∀ k : Trip, 5 ≤ (jobOf k).val → k0_off30 k = slotTailOff (slot (jobPrev k)) :=
  fun k h1 => funext ((by decide +kernel : ∀ k : Trip, 5 ≤ (jobOf k).val → ∀ a, k0_off30 k a = (slotTailOff (slot (jobPrev k))) a) k h1)
theorem off31_eq : ∀ k : Trip, 5 ≤ (jobOf k).val → (jobOf k).val < 8 → k0_off31 k = semOff (slot (jobNext k)) :=
  fun k h1 h2 => funext ((by decide +kernel : ∀ k : Trip, 5 ≤ (jobOf k).val → (jobOf k).val < 8 → ∀ a, k0_off31 k a = (semOff (slot (jobNext k))) a) k h1 h2)
theorem off32_eq : ∀ k : Trip, 5 ≤ (jobOf k).val → (jobOf k).val < 8 → k0_off32 k = slotOff (slot (jobNext k)) :=
  fun k h1 h2 => funext ((by decide +kernel : ∀ k : Trip, 5 ≤ (jobOf k).val → (jobOf k).val < 8 → ∀ a, k0_off32 k a = (slotOff (slot (jobNext k))) a) k h1 h2)
theorem off33_eq : ∀ (i : Coord) (k : Trip), 5 ≤ (jobOf k).val → (jobOf k).val < 8 → k0_off33 i k = blkOff i (jobNext k) :=
  fun i k h1 h2 => funext ((by decide +kernel : ∀ (i : Coord) (k : Trip), 5 ≤ (jobOf k).val → (jobOf k).val < 8 → ∀ a, k0_off33 i k a = (blkOff i (jobNext k)) a) i k h1 h2)
theorem off34_eq : ∀ k : Trip, 5 ≤ (jobOf k).val → (jobOf k).val < 8 → k0_off34 k = semOff (slot (jobNext k)) :=
  fun k h1 h2 => funext ((by decide +kernel : ∀ k : Trip, 5 ≤ (jobOf k).val → (jobOf k).val < 8 → ∀ a, k0_off34 k a = (semOff (slot (jobNext k))) a) k h1 h2)
theorem off35_eq : ∀ k : Trip, 5 ≤ (jobOf k).val → (jobOf k).val < 8 → k0_off35 k = slotTailOff (slot (jobNext k)) :=
  fun k h1 h2 => funext ((by decide +kernel : ∀ k : Trip, 5 ≤ (jobOf k).val → (jobOf k).val < 8 → ∀ a, k0_off35 k a = (slotTailOff (slot (jobNext k))) a) k h1 h2)
theorem off36_eq : ∀ (i : Coord) (k : Trip), 5 ≤ (jobOf k).val → (jobOf k).val < 8 → k0_off36 i k = tailOff i (jobNext k) :=
  fun i k h1 h2 => funext ((by decide +kernel : ∀ (i : Coord) (k : Trip), 5 ≤ (jobOf k).val → (jobOf k).val < 8 → ∀ a, k0_off36 i k a = (tailOff i (jobNext k)) a) i k h1 h2)

/-- The prologue's and the epilogue's blocks: chunk `c` of group `g` is job `8 * g + c`. -/
theorem off1_eq : ∀ (i : Coord) (g : Fin 2), k0_off1 i (BitVec.ofNat 32 g.val) = blkOff i ⟨8 * g.val, by omega⟩ :=
  fun i g => funext ((by decide +kernel : ∀ (i : Coord) (g : Fin 2), ∀ a, k0_off1 i (BitVec.ofNat 32 g.val) a = (blkOff i ⟨8 * g.val, by omega⟩) a) i g)
theorem off2_eq : ∀ (i : Coord) (g : Fin 2), k0_off2 i (BitVec.ofNat 32 g.val) = blkOff i ⟨8 * g.val + 1, by omega⟩ :=
  fun i g => funext ((by decide +kernel : ∀ (i : Coord) (g : Fin 2), ∀ a, k0_off2 i (BitVec.ofNat 32 g.val) a = (blkOff i ⟨8 * g.val + 1, by omega⟩) a) i g)
theorem off3_eq : ∀ (i : Coord) (g : Fin 2), k0_off3 i (BitVec.ofNat 32 g.val) = blkOff i ⟨8 * g.val + 2, by omega⟩ :=
  fun i g => funext ((by decide +kernel : ∀ (i : Coord) (g : Fin 2), ∀ a, k0_off3 i (BitVec.ofNat 32 g.val) a = (blkOff i ⟨8 * g.val + 2, by omega⟩) a) i g)
theorem off4_eq : ∀ (i : Coord) (g : Fin 2), k0_off4 i (BitVec.ofNat 32 g.val) = blkOff i ⟨8 * g.val + 3, by omega⟩ :=
  fun i g => funext ((by decide +kernel : ∀ (i : Coord) (g : Fin 2), ∀ a, k0_off4 i (BitVec.ofNat 32 g.val) a = (blkOff i ⟨8 * g.val + 3, by omega⟩) a) i g)
theorem off5_eq : ∀ (i : Coord) (g : Fin 2), k0_off5 i (BitVec.ofNat 32 g.val) = blkOff i ⟨8 * g.val + 4, by omega⟩ :=
  fun i g => funext ((by decide +kernel : ∀ (i : Coord) (g : Fin 2), ∀ a, k0_off5 i (BitVec.ofNat 32 g.val) a = (blkOff i ⟨8 * g.val + 4, by omega⟩) a) i g)
theorem off6_eq : ∀ (i : Coord) (g : Fin 2), k0_off6 i (BitVec.ofNat 32 g.val) = blkOff i ⟨8 * g.val + 5, by omega⟩ :=
  fun i g => funext ((by decide +kernel : ∀ (i : Coord) (g : Fin 2), ∀ a, k0_off6 i (BitVec.ofNat 32 g.val) a = (blkOff i ⟨8 * g.val + 5, by omega⟩) a) i g)
theorem off7_eq : ∀ (i : Coord) (g : Fin 2), k0_off7 i (BitVec.ofNat 32 g.val) = blkOff i ⟨8 * g.val + 6, by omega⟩ :=
  fun i g => funext ((by decide +kernel : ∀ (i : Coord) (g : Fin 2), ∀ a, k0_off7 i (BitVec.ofNat 32 g.val) a = (blkOff i ⟨8 * g.val + 6, by omega⟩) a) i g)
theorem off8_eq : ∀ (i : Coord) (g : Fin 2), k0_off8 i (BitVec.ofNat 32 g.val) = blkOff i ⟨8 * g.val + 7, by omega⟩ :=
  fun i g => funext ((by decide +kernel : ∀ (i : Coord) (g : Fin 2), ∀ a, k0_off8 i (BitVec.ofNat 32 g.val) a = (blkOff i ⟨8 * g.val + 7, by omega⟩) a) i g)
theorem off9_eq : ∀ (i : Coord) (g : Fin 2), k0_off9 i (BitVec.ofNat 32 g.val) = tailOff i ⟨8 * g.val + 7, by omega⟩ :=
  fun i g => funext ((by decide +kernel : ∀ (i : Coord) (g : Fin 2), ∀ a, k0_off9 i (BitVec.ofNat 32 g.val) a = (tailOff i ⟨8 * g.val + 7, by omega⟩) a) i g)

end Cert.Run.Kernel

end
-- ==== Proof.Kernel.Moves.lean ====
/-
  The kernel's transfers, one rule per kind: a block copied from the input into a slot, a slot copied out to the
  output, and the waits for either.
-/
module

public import proofs.«01_k».proof.Proof.Kernel.Views

@[expose] public section

set_option maxRecDepth 16384

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Idealize.ShloMosaic.ValueIdx (ix2 ix3 eq_ix2 eq_ix3 reshapeEquiv_ix2_1ab)

variable {F : FTy → Type} [FloatOps F]

local notation "𝕄" => MT nD τ sig Unit (Elt F) ℕ (UC sig nD τ) ℕ
abbrev 𝒱₀ : Variants := Variants.none

/-- A whole input-shaped array's contents, and the ring's. -/
abbrev Arr (F : FTy → Type) : Type := S32x1000000.Idx → Elt F .f32
abbrev RingV (F : FTy → Type) : Type := S13x8x125504.Idx → Elt F .f32

theorem rowB_lt (i : Coord) (j : Fin 16) (p : Fin 8) : rowB i j + p.val < 32 := by have := rowB_le i j; omega
theorem colB_lt (j : Fin 16) (q : Fin 125504) : colB j + q.val < 1000000 := by have := colB_le j; omega

/-- Job `j`'s part of an array `X`, laid out as the ring holds it (in any slot): its rows, its columns. -/
def jobPart (X : Arr F) (i : Coord) (j : Fin 16) : RingV F :=
  fun y => X (ix2 ⟨rowB i j + (y 1).val, rowB_lt i j (y 1)⟩ ⟨colB j + (y 2).val, colB_lt j (y 2)⟩)

section Read
variable (X : Arr F) (i : Coord) (j : Fin 16) (s : Fin 13)

theorem read_blk (M : Memref sig .tc .hbm S32x1000000 .f32) (f : M.view.ty.Contents (Elt F)) (h) (p : Fin 8) (q : Fin 124928) :
    (blk M (blkOff i j) h).view.read (Elt F) f (ix2 p q)
      = M.view.read (Elt F) f (ix2 ⟨rowB i j + p.val, rowB_lt i j p⟩ ⟨colB j + q.val, by have := colB_le j; omega⟩) := by
  show M.view.read (Elt F) f _ = _
  congr 1
  funext a
  apply Fin.ext
  rw [Rect.emb_apply]
  match a with
  | ⟨0, _⟩ => show rowB i j + 1 * p.val = rowB i j + p.val; omega
  | ⟨1, _⟩ => show colB j + 1 * q.val = colB j + q.val; omega
theorem read_blkT (M : Memref sig .tc .hbm S32x1000000 .f32) (f : M.view.ty.Contents (Elt F)) (h) (p : Fin 8) (q : Fin 576) :
    (blkT M (tailOff i j) h).view.read (Elt F) f (ix2 p q)
      = M.view.read (Elt F) f (ix2 ⟨rowB i j + p.val, rowB_lt i j p⟩ ⟨999424 + q.val, by omega⟩) := by
  show M.view.read (Elt F) f _ = _
  congr 1
  funext a
  apply Fin.ext
  rw [Rect.emb_apply]
  match a with
  | ⟨0, _⟩ => show rowB i j + 1 * p.val = rowB i j + p.val; omega
  | ⟨1, _⟩ => show 999424 + 1 * q.val = 999424 + q.val; omega
theorem read_slM (f : RingV F) (h) (p : Fin 8) (q : Fin 124928) :
    (slM (slotOff s) h).view.read (Elt F) f (ix2 p q) = f (ix3 s p ⟨q.val, by omega⟩) := by
  have h1 : (slM (slotOff s) h).view.read (Elt F) f (ix2 p q)
      = f ((Rect.unit (s := S13x8x125504) (slotOff s) S1x8x124928.size h).emb
          (Shape.reshapeEquiv squeezes_S1x8x124928_S8x124928.numel_eq (ix2 p q))) := rfl
  rw [h1, reshapeEquiv_ix2_1ab]
  congr 1
  funext a
  apply Fin.ext
  rw [Rect.emb_apply]
  match a with
  | ⟨0, _⟩ => show s.val + 1 * 0 = s.val; omega
  | ⟨1, _⟩ => show 0 + 1 * p.val = p.val; omega
  | ⟨2, _⟩ => show 0 + 1 * q.val = q.val; omega
theorem read_slT (f : RingV F) (h) (p : Fin 8) (q : Fin 576) :
    (slT (slotTailOff s) h).view.read (Elt F) f (ix2 p q) = f (ix3 s p ⟨124928 + q.val, by omega⟩) := by
  have h1 : (slT (slotTailOff s) h).view.read (Elt F) f (ix2 p q)
      = f ((Rect.unit (s := S13x8x125504) (slotTailOff s) S1x8x576.size h).emb
          (Shape.reshapeEquiv squeezes_S1x8x576_S8x576.numel_eq (ix2 p q))) := rfl
  rw [h1, reshapeEquiv_ix2_1ab]
  congr 1
  funext a
  apply Fin.ext
  rw [Rect.emb_apply]
  match a with
  | ⟨0, _⟩ => show s.val + 1 * 0 = s.val; omega
  | ⟨1, _⟩ => show 0 + 1 * p.val = p.val; omega
  | ⟨2, _⟩ => show 124928 + 1 * q.val = 124928 + q.val; omega

end Read

theorem read_main (X : Arr F) (i : Coord) (j : Fin 16) (s : Fin 13) (M : Memref sig .tc .hbm S32x1000000 .f32) (f : M.view.ty.Contents (Elt F))
    (hf : ∀ z, M.view.read (Elt F) f z = X z) (h h') (y : S8x124928.Idx) :
    (blk M (blkOff i j) h).view.read (Elt F) f y = (slM (slotOff s) h').view.read (Elt F) (jobPart X i j) y := by
  rw [eq_ix2 y]
  exact (read_blk i j M f h (y 0) (y 1)).trans ((hf _).trans (read_slM s (jobPart X i j) h' (y 0) (y 1)).symm)
theorem read_tail (X : Arr F) (i : Coord) (j : Fin 16) (hj : j.val % 8 = 7) (s : Fin 13) (M : Memref sig .tc .hbm S32x1000000 .f32)
    (f : M.view.ty.Contents (Elt F)) (hf : ∀ z, M.view.read (Elt F) f z = X z) (h h') (y : S8x576.Idx) :
    (blkT M (tailOff i j) h).view.read (Elt F) f y = (slT (slotTailOff s) h').view.read (Elt F) (jobPart X i j) y := by
  rw [eq_ix2 y]
  refine (read_blkT i j M f h (y 0) (y 1)).trans ((hf _).trans (Eq.trans ?_ (read_slT s (jobPart X i j) h' (y 0) (y 1)).symm))
  show X _ = X _
  congr 1
  have hq : 999424 + (y 1).val = colB j + (124928 + (y 1).val) := by unfold colB; omega
  funext a
  apply Fin.ext
  match a with
  | ⟨0, _⟩ => rfl
  | ⟨1, _⟩ => exact hq

/-! ## The transfers' amounts -/

theorem amount_slM (off h) : (slM off h).view.dmaCredit = 124928 := rfl
theorem amount_slT (off h) : (slT off h).view.dmaCredit = 640 := rfl
theorem amount_yblk (off h) : (blk yM off h).view.dmaCredit = 124928 := rfl
theorem amount_yblkT (off h) : (blkT yM off h).view.dmaCredit = 640 := rfl

/-! ## The pieces held -/

section Pieces
variable (c : Dev nD)

abbrev inP (S : Finset S32x1000000.Idx) (f : Arr F) : sProp 𝕄 := xM.view.loc (c : Thread nD τ) ↦[S]{fullShare} f
abbrev outP (S : Finset S32x1000000.Idx) (f : Arr F) : sProp 𝕄 := yM.view.loc (c : Thread nD τ) ↦[S]{fullShare} f
abbrev ringP (S : Finset S13x8x125504.Idx) (f : RingV F) : sProp 𝕄 := ringM.view.loc (c : Thread nD τ) ↦[S]{fullShare} f
/-- Semaphore `s` of the array `A` is at zero. -/
abbrev semP (A : DmaSems sig S13) (s : Fin 13) : sProp 𝕄 := semVal ((c : Thread nD τ), SemLoc.dma (sm A s)) 0
abbrev flyP (A : DmaSems sig S13) (s : Fin 13) (N : ℕ) (D : sProp 𝕄) : sProp 𝕄 :=
  Transfers.Flight countersEmb (c : Thread nD τ) (SemLoc.dma (sm A s)) () N D
abbrev owP : sProp 𝕄 := iprop(∃ W, owes (c : Thread nD τ) 0 W)

abbrev wpc {α : Type} (p : Prog (TpuEff nD τ sig (Elt F) Λ₀ .tc) α) (Q : α → sProp 𝕄) : sProp 𝕄 :=
  wp Idealize.ShloMosaic.frame (wpE (defs₀ (F := F)) 𝒱₀ (c : Thread nD τ) none) Set.univ p Q

variable {α : Type} {Q : α → sProp (MT nD τ sig Unit (Elt F) ℕ (UC sig nD τ) ℕ)} {k : PUnit → Prog (TpuEff nD τ sig (Elt F) Λ₀ .tc) α}

/-- Starting a transfer whose source reads as `gd` does through the destination: when it lands, the destination is at `gd`. -/
theorem wp_start {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    (fs : Buf (Elt F) (src.view.loc (c : Thread nD τ))) (gd : Buf (Elt F) (dst.view.loc (c : Thread nD τ)))
    (N : ℕ) (hN : dst.view.amount (.dma sem) = N) (hN0 : 0 < N)
    (hv : ∀ y, src.view.read (Elt F) fs y = dst.view.read (Elt F) gd y) :
    iprop((src.view.loc (c : Thread nD τ) ↦[src.view.set]{fullShare} fs)
        ∗ (∃ f, dst.view.loc (c : Thread nD τ) ↦[dst.view.set]{fullShare} f)
        ∗ semVal ((c : Thread nD τ), SemLoc.dma sem) 0)
      ⊢ iprop((Transfers.Flight countersEmb (c : Thread nD τ) (SemLoc.dma sem) () N
                iprop((dst.view.loc (c : Thread nD τ) ↦[dst.view.set]{fullShare} gd) ∗ (src.view.loc (c : Thread nD τ) ↦[src.view.set]{fullShare} fs))
              -∗ wpc c (k ⟨⟩) Q)
          -∗ wpc c (.op (.enqueueDma src (.here dst) (.dma sem) hsrc hdst hsem) k) Q) := by
  iintro ⟨Hs, ⟨%f, Hd⟩, Hv⟩ Hk
  iapply (Transfers.wp_dmaLocal countersEmb 𝒱₀ (c : Thread nD τ) none () N hN hN0 (Finset.Subset.refl _)) $$ [Hs Hd Hv]
  · isplitl [Hs]; · iexact Hs
    isplitl [Hd]; · iexact Hd
    iexact Hv
  iintro Hf
  iapply Hk
  have hc : (dst.view.loc (c : Thread nD τ) ↦[dst.view.set]{fullShare} (dst.view.write (Elt F) f (ReadAs.same.apply (src.view.read (Elt F) fs)) Finset.univ) : sProp 𝕄)
      = (dst.view.loc (c : Thread nD τ) ↦[dst.view.set]{fullShare} gd) := by
    refine pointsTo_congr fun z hz => ?_
    obtain ⟨y, -, rfl⟩ := Finset.mem_map.mp hz
    rw [View.write_emb_of_mem _ _ (Finset.mem_univ y)]
    have h : (ReadAs.same.apply (src.view.read (Elt F) fs)) y = dst.view.read (Elt F) gd y := hv y
    rw [h, View.read_apply, cast_cast, cast_eq]
  rw [hc]
  iexact Hf

/-- Waiting for a transfer in flight: what it delivers, and its semaphore back at zero. -/
theorem wp_waitFor {sp sp' : Space} {s s' : Shape} {e e' : EltTy} {κ' : Kind} {sem : DmaSem sig}
    {src : Memref sig .tc sp' s' e'} {dst : Memref sig κ' sp s e} {hsrc : src.view.WordExact} {hdst : dst.view.WordExact}
    (N : ℕ) (hN : dst.view.dmaCredit = N) (D : sProp 𝕄) :
    iprop(Transfers.Flight countersEmb (c : Thread nD τ) (SemLoc.dma sem) () N D ∗ owP (F := F) c)
      ⊢ iprop((iprop(D ∗ semVal ((c : Thread nD τ), SemLoc.dma sem) 0 ∗ owP (F := F) c) -∗ wpc c (k ⟨⟩) Q)
          -∗ wpc c (.op (.waitDma2 sem src dst hsrc hdst) k) Q) := by
  iintro ⟨Hf, ⟨%W, HW⟩⟩ Hk
  iapply (Transfers.wp_waitLocal countersEmb 𝒱₀ (c : Thread nD τ) none () hN) $$ [Hf HW]
  · isplitl [Hf] <;> iassumption
  iintro ⟨HD, Hv, HW⟩
  iapply Hk
  isplitl [HD]; · iexact HD
  isplitl [Hv]; · iexact Hv
  iexists _; iexact HW

section Kinds
variable (X : Arr F) (i : Coord) (j : Fin 16) (s : Fin 13) (A : DmaSems sig S13)

/-- Job `j`'s main block starts on its way into slot `s`. -/
theorem start_in {o1 : Fin 2 → ℕ} {h1} {o2 : Fin 3 → ℕ} {h2} {o3 : Fin 1 → ℕ} {h3} {hsrc hdst hsem}
    (e1 : o1 = blkOff i j) (e2 : o2 = slotOff s) (e3 : o3 = semOff s) :
    iprop(inP c (mH i j) X ∗ (∃ f, ringP (F := F) c (mS s) f) ∗ semP (F := F) c A s)
      ⊢ iprop((flyP c A s 124928 iprop(ringP c (mS s) (jobPart X i j) ∗ inP c (mH i j) X) -∗ wpc c (k ⟨⟩) Q)
          -∗ wpc c (.op (.enqueueDma (blk xM o1 h1) (.here (slM o2 h2)) (.dma (smAt A o3 h3).sem) hsrc hdst hsem) k) Q) := by
  subst e1 e2 e3
  have h := wp_start c (Q := Q) (k := k) (hsrc := hsrc) (hdst := hdst) (hsem := hsem) (src := blk xM (blkOff i j) h1) (dst := slM (slotOff s) h2)
    (sem := (smAt A (semOff s) h3).sem) X (jobPart X i j) 124928 (amount_slM _ _) (by decide) (read_main X i j s xM X (fun _ => rfl) h1 h2)
  rw [slM_set, xblk_set] at h
  exact h
/-- The tail of the last chunk's job `j` starts on its way into slot `s`. -/
theorem start_inT (hj : j.val % 8 = 7) {o1 : Fin 2 → ℕ} {h1} {o2 : Fin 3 → ℕ} {h2} {o3 : Fin 1 → ℕ} {h3} {hsrc hdst hsem}
    (e1 : o1 = tailOff i j) (e2 : o2 = slotTailOff s) (e3 : o3 = semOff s) :
    iprop(inP c (tH i j) X ∗ (∃ f, ringP (F := F) c (tS s) f) ∗ semP (F := F) c A s)
      ⊢ iprop((flyP c A s 640 iprop(ringP c (tS s) (jobPart X i j) ∗ inP c (tH i j) X) -∗ wpc c (k ⟨⟩) Q)
          -∗ wpc c (.op (.enqueueDma (blkT xM o1 h1) (.here (slT o2 h2)) (.dma (smAt A o3 h3).sem) hsrc hdst hsem) k) Q) := by
  subst e1 e2 e3
  have h := wp_start c (Q := Q) (k := k) (hsrc := hsrc) (hdst := hdst) (hsem := hsem) (src := blkT xM (tailOff i j) h1) (dst := slT (slotTailOff s) h2)
    (sem := (smAt A (semOff s) h3).sem) X (jobPart X i j) 640 (amount_slT _ _) (by decide) (read_tail X i j hj s xM X (fun _ => rfl) h1 h2)
  rw [slT_set, xblkT_set] at h
  exact h
/-- Slot `s`'s main part starts on its way out to job `j`'s block of the output. -/
theorem start_out {o1 : Fin 2 → ℕ} {h1} {o2 : Fin 3 → ℕ} {h2} {o3 : Fin 1 → ℕ} {h3} {hsrc hdst hsem}
    (e1 : o1 = blkOff i j) (e2 : o2 = slotOff s) (e3 : o3 = semOff s) :
    iprop(ringP c (mS s) (jobPart X i j) ∗ (∃ f, outP (F := F) c (mH i j) f) ∗ semP (F := F) c A s)
      ⊢ iprop((flyP c A s 124928 iprop(outP c (mH i j) X ∗ ringP c (mS s) (jobPart X i j)) -∗ wpc c (k ⟨⟩) Q)
          -∗ wpc c (.op (.enqueueDma (slM o2 h2) (.here (blk yM o1 h1)) (.dma (smAt A o3 h3).sem) hsrc hdst hsem) k) Q) := by
  subst e1 e2 e3
  have h := wp_start c (Q := Q) (k := k) (hsrc := hsrc) (hdst := hdst) (hsem := hsem) (dst := blk yM (blkOff i j) h1) (src := slM (slotOff s) h2)
    (sem := (smAt A (semOff s) h3).sem) (jobPart X i j) X 124928 (amount_yblk _ _) (by decide)
    (fun y => (read_main X i j s yM X (fun _ => rfl) h1 h2 y).symm)
  rw [slM_set, yblk_set] at h
  exact h
/-- Slot `s`'s tail starts on its way out to the output's tail of the last chunk's job `j`. -/
theorem start_outT (hj : j.val % 8 = 7) {o1 : Fin 2 → ℕ} {h1} {o2 : Fin 3 → ℕ} {h2} {o3 : Fin 1 → ℕ} {h3} {hsrc hdst hsem}
    (e1 : o1 = tailOff i j) (e2 : o2 = slotTailOff s) (e3 : o3 = semOff s) :
    iprop(ringP c (tS s) (jobPart X i j) ∗ (∃ f, outP (F := F) c (tH i j) f) ∗ semP (F := F) c A s)
      ⊢ iprop((flyP c A s 640 iprop(outP c (tH i j) X ∗ ringP c (tS s) (jobPart X i j)) -∗ wpc c (k ⟨⟩) Q)
          -∗ wpc c (.op (.enqueueDma (slT o2 h2) (.here (blkT yM o1 h1)) (.dma (smAt A o3 h3).sem) hsrc hdst hsem) k) Q) := by
  subst e1 e2 e3
  have h := wp_start c (Q := Q) (k := k) (hsrc := hsrc) (hdst := hdst) (hsem := hsem) (dst := blkT yM (tailOff i j) h1) (src := slT (slotTailOff s) h2)
    (sem := (smAt A (semOff s) h3).sem) (jobPart X i j) X 640 (amount_yblkT _ _) (by decide)
    (fun y => (read_tail X i j hj s yM X (fun _ => rfl) h1 h2 y).symm)
  rw [slT_set, yblkT_set] at h
  exact h

/-- Waiting on semaphore `s` of the array `A`. -/
theorem wait_sem {sp sp' : Space} {s₀ s₁ : Shape} {e₀ e₁ : EltTy} {κ' : Kind}
    {src : Memref sig .tc sp' s₁ e₁} {dst : Memref sig κ' sp s₀ e₀} {o3 : Fin 1 → ℕ} {h3} {hsrc : src.view.WordExact} {hdst : dst.view.WordExact}
    (N : ℕ) (hN : dst.view.dmaCredit = N) (e3 : o3 = semOff s) (D : sProp 𝕄) :
    iprop(flyP c A s N D ∗ owP (F := F) c)
      ⊢ iprop((iprop(D ∗ semP (F := F) c A s ∗ owP (F := F) c) -∗ wpc c (k ⟨⟩) Q)
          -∗ wpc c (.op (.waitDma2 (smAt A o3 h3).sem src dst hsrc hdst) k) Q) := by
  subst e3
  exact wp_waitFor c N hN D

end Kinds

/-! ## Loads and stores through a whole buffer's rectangle -/

theorem slot_emb (s : Fin 13) (h) (y : S1x8x125504.Idx) :
    (Rect.unit (s := S13x8x125504) (slotOff s) S1x8x125504.size h).emb y = ix3 s (y 1) (y 2) := by
  have h0 : (y 0).val < 1 := (y 0).isLt
  funext a
  apply Fin.ext
  rw [Rect.emb_apply]
  match a with
  | ⟨0, _⟩ => show s.val + 1 * (y 0).val = s.val; omega
  | ⟨1, _⟩ => show 0 + 1 * (y 1).val = (y 1).val; omega
  | ⟨2, _⟩ => show 0 + 1 * (y 2).val = (y 2).val; omega
theorem col_emb (h) (y : S8x1.Idx) : (Rect.unit (s := S8x1) ![0, 0] S8x1.size h).emb y = y := by
  funext a
  apply Fin.ext
  rw [Rect.emb_apply]
  match a with
  | ⟨0, _⟩ => show 0 + 1 * (y 0).val = (y 0).val; omega
  | ⟨1, _⟩ => show 0 + 1 * (y 1).val = (y 1).val; omega

/-- Slot `s` of the ring's contents `f`. -/
abbrev slotOf (s : Fin 13) (f : RingV F) : S1x8x125504.Idx → Elt F .f32 := fun y => f (ix3 s (y 1) (y 2))
/-- Ring contents whose every slot is `w`. -/
abbrev ofSlot (w : S1x8x125504.Idx → Elt F .f32) : RingV F := fun y => w (ix3 ⟨0, Nat.one_pos⟩ (y 1) (y 2))

/-- Loading slot `s` whole. -/
theorem load_slot {o : Fin 3 → ℕ} {h} {hl} {k : (S1x8x125504.Idx → Elt F .f32) → Prog (TpuEff nD τ sig (Elt F) Λ₀ .tc) α} (s : Fin 13)
    (e : o = slotOff s) (f : RingV F) :
    ringP c (wS s) f ⊢ iprop((ringP c (wS s) f -∗ wpc c (k (slotOf s f)) Q)
      -∗ wpc c (.op (.load ringM (Rect.unit (s := S13x8x125504) o S1x8x125504.size h).toLoadRect hl) k) Q) := by
  subst e
  have hr : (ringM.access (Rect.unit (s := S13x8x125504) (slotOff s) S1x8x125504.size h)).read (Elt F) f = slotOf s f :=
    funext fun y => congrArg f (slot_emb s h y)
  rw [← hr]
  exact wp_load_rect 𝒱₀ (c : Thread nD τ) none Set.univ (m := ringM) (hl := hl) (k := k) (Q := Q) (q := fullShare) (f := f) (S := wS s)
    (r := Rect.unit (s := S13x8x125504) (slotOff s) S1x8x125504.size h) (View.set_slice_whole _ _).subset
/-- Storing slot `s` whole. -/
theorem store_slot {o : Fin 3 → ℕ} {h} {hx hm} (s : Fin 13) (e : o = slotOff s) (f : RingV F) (w : S1x8x125504.Idx → Elt F .f32) :
    ringP c (wS s) f ⊢ iprop((ringP c (wS s) (ofSlot w) -∗ wpc c (k ⟨⟩) Q)
      -∗ wpc c (.op (.store ringM (Rect.unit (s := S13x8x125504) o S1x8x125504.size h) w Finset.univ hx hm) k) Q) := by
  subst e
  have hr : ringP c (wS s) ((ringM.access (Rect.unit (s := S13x8x125504) (slotOff s) S1x8x125504.size h)).write (Elt F) f w Finset.univ)
      = ringP c (wS s) (ofSlot w) := by
    refine pointsTo_congr fun z hz => ?_
    have hz' : z ∈ (ringM.access (Rect.unit (s := S13x8x125504) (slotOff s) S1x8x125504.size h)).set := by
      have e : (ringM.access (Rect.unit (s := S13x8x125504) (slotOff s) S1x8x125504.size h)).set = wS s := View.set_slice_whole _ _
      rw [e]; exact hz
    obtain ⟨y, -, rfl⟩ := Finset.mem_map.mp hz'
    have h1 := View.write_emb_of_mem (Val := Elt F) (v := ringM.access (Rect.unit (s := S13x8x125504) (slotOff s) S1x8x125504.size h)) f w (Finset.mem_univ y)
    refine h1.trans ?_
    show w y = w _
    refine congrArg w (funext fun a => Fin.ext ?_)
    have h0 : (y 0).val < 1 := (y 0).isLt
    have he := slot_emb s h y
    match a with
    | ⟨0, _⟩ => show (y 0).val = 0; omega
    | ⟨1, _⟩ => exact (congrArg (fun z => (z 1).val) he).symm
    | ⟨2, _⟩ => exact (congrArg (fun z => (z 2).val) he).symm
  rw [← hr]
  exact wp_store 𝒱₀ (c : Thread nD τ) none Set.univ (m := ringM) (hx := hx) (hm := hm) (k := k) (Q := Q) (w := w) (f := f) (S := wS s)
    (r := Rect.unit (s := S13x8x125504) (slotOff s) S1x8x125504.size h) (View.set_slice_whole _ _).subset

/-- The running maximum's buffer and the running sum's. -/
abbrev ColV (F : FTy → Type) : Type := S8x1.Idx → Elt F .f32
abbrev maxP (f : ColV F) : sProp 𝕄 := maxM.view.loc (c : Thread nD τ) ↦[Finset.univ]{fullShare} f
abbrev sumP (f : ColV F) : sProp 𝕄 := sumM.view.loc (c : Thread nD τ) ↦[Finset.univ]{fullShare} f

theorem load_max {h hl} {k : (S8x1.Idx → Elt F .f32) → Prog (TpuEff nD τ sig (Elt F) Λ₀ .tc) α} (f : ColV F) :
    maxP c f ⊢ iprop((maxP c f -∗ wpc c (k f) Q)
      -∗ wpc c (.op (.load maxM (Rect.unit (s := S8x1) ![0, 0] S8x1.size h).toLoadRect hl) k) Q) := by
  have hr : (maxM.access (Rect.unit (s := S8x1) ![0, 0] S8x1.size h)).read (Elt F) f = f := funext fun y => congrArg f (col_emb h y)
  have := wp_load_rect (defs := defs₀ (F := F)) (Γ := .empty) 𝒱₀ (c : Thread nD τ) none Set.univ (m := maxM) (hl := hl) (k := k) (Q := Q) (q := fullShare) (f := f) (S := Finset.univ)
    (r := Rect.unit (s := S8x1) ![0, 0] S8x1.size h) (Finset.subset_univ _)
  rw [hr] at this
  exact this
theorem load_sum {h hl} {k : (S8x1.Idx → Elt F .f32) → Prog (TpuEff nD τ sig (Elt F) Λ₀ .tc) α} (f : ColV F) :
    sumP c f ⊢ iprop((sumP c f -∗ wpc c (k f) Q)
      -∗ wpc c (.op (.load sumM (Rect.unit (s := S8x1) ![0, 0] S8x1.size h).toLoadRect hl) k) Q) := by
  have hr : (sumM.access (Rect.unit (s := S8x1) ![0, 0] S8x1.size h)).read (Elt F) f = f := funext fun y => congrArg f (col_emb h y)
  have := wp_load_rect (defs := defs₀ (F := F)) (Γ := .empty) 𝒱₀ (c : Thread nD τ) none Set.univ (m := sumM) (hl := hl) (k := k) (Q := Q) (q := fullShare) (f := f) (S := Finset.univ)
    (r := Rect.unit (s := S8x1) ![0, 0] S8x1.size h) (Finset.subset_univ _)
  rw [hr] at this
  exact this
theorem store_max {h hx hm} (f w : ColV F) :
    maxP c f ⊢ iprop((maxP c w -∗ wpc c (k ⟨⟩) Q)
      -∗ wpc c (.op (.store maxM (Rect.unit (s := S8x1) ![0, 0] S8x1.size h) w Finset.univ hx hm) k) Q) := by
  have hr : (maxM.access (Rect.unit (s := S8x1) ![0, 0] S8x1.size h)).write (Elt F) f w Finset.univ = w := by
    funext z
    have h1 := View.write_emb_of_mem (Val := Elt F) (v := maxM.access (Rect.unit (s := S8x1) ![0, 0] S8x1.size h)) f w (Finset.mem_univ z)
    have h2 : (maxM.access (Rect.unit (s := S8x1) ![0, 0] S8x1.size h)).emb z = z := col_emb h z
    rw [h2] at h1
    exact h1
  have := wp_store (defs := defs₀ (F := F)) (Γ := .empty) 𝒱₀ (c : Thread nD τ) none Set.univ (m := maxM) (hx := hx) (hm := hm) (k := k) (Q := Q) (w := w) (f := f) (S := Finset.univ)
    (r := Rect.unit (s := S8x1) ![0, 0] S8x1.size h) (Finset.subset_univ _)
  rw [hr] at this
  exact this
theorem store_sum {h hx hm} (f w : ColV F) :
    sumP c f ⊢ iprop((sumP c w -∗ wpc c (k ⟨⟩) Q)
      -∗ wpc c (.op (.store sumM (Rect.unit (s := S8x1) ![0, 0] S8x1.size h) w Finset.univ hx hm) k) Q) := by
  have hr : (sumM.access (Rect.unit (s := S8x1) ![0, 0] S8x1.size h)).write (Elt F) f w Finset.univ = w := by
    funext z
    have h1 := View.write_emb_of_mem (Val := Elt F) (v := sumM.access (Rect.unit (s := S8x1) ![0, 0] S8x1.size h)) f w (Finset.mem_univ z)
    have h2 : (sumM.access (Rect.unit (s := S8x1) ![0, 0] S8x1.size h)).emb z = z := col_emb h z
    rw [h2] at h1
    exact h1
  have := wp_store (defs := defs₀ (F := F)) (Γ := .empty) 𝒱₀ (c : Thread nD τ) none Set.univ (m := sumM) (hx := hx) (hm := hm) (k := k) (Q := Q) (w := w) (f := f) (S := Finset.univ)
    (r := Rect.unit (s := S8x1) ![0, 0] S8x1.size h) (Finset.subset_univ _)
  rw [hr] at this
  exact this

end Pieces

end Cert.Run.Kernel

end
-- ==== Proof.Kernel.Values.lean ====
/-
  What the kernel's trips compute: the running maximum and the running sum before each trip, and the output array.
-/
module

public import proofs.«01_k».proof.Proof.Kernel.Moves
public import Idealize.ShloMosaic.Lib.Pipeline.Value

@[expose] public section

set_option maxRecDepth 16384

noncomputable section

namespace Cert.Run.Kernel

open Cert.Kernel Cert.Kernel.Gen
open Idealize.ShloMosaic
open Idealize.ShloMosaic.ValueIdx (ix2 ix3 eq_ix2 eq_ix3 reshapeEquiv_ix2_1ab)

variable {F : FTy → Type} [FloatOps F]

theorem core_cond : ∀ k : Trip, (Scalar.cmpi .eq (Scalar.remsi (Scalar.remsi (Scf.iv 0#32 1#32 k) 24#32) 8#32) 7#32 = 1#1) ↔ k.val % 8 = 7 := by
  decide +kernel
theorem first_cond : ∀ k : Trip, (Scalar.cmpi .eq (Scalar.remsi (Scalar.remsi (Scf.iv 0#32 1#32 k) 24#32) 8#32) 0#32 = 1#1) ↔ k.val % 8 = 0 := by
  decide +kernel
theorem core_bit (k : Trip) (h : k.val % 8 ≠ 7) : Scalar.cmpi .eq (Scalar.remsi (Scalar.remsi (Scf.iv 0#32 1#32 k) 24#32) 8#32) 7#32 = 0#1 := by
  revert k; decide +kernel
theorem first_bit (k : Trip) (h : k.val % 8 = 0) : Scalar.cmpi .eq (Scalar.remsi (Scalar.remsi (Scf.iv 0#32 1#32 k) 24#32) 8#32) 0#32 = 1#1 :=
  (first_cond k).mpr h

/-- Two slots agree wherever trip `k`'s job has data: on the main columns, and on the tail if the chunk is the last. -/
def AgreeAt (last : Prop) (v v' : S1x8x125504.Idx → Elt F .f32) : Prop := ∀ y, ((y 2).val < 124928 ∨ last) → v y = v' y

theorem cast_slot (v : S1x8x125504.Idx → Elt F .f32) :
    shapeCast S8x125504 v shapeCasts_S1x8x125504_S8x125504 = fun y => v (ix3 ⟨0, Nat.one_pos⟩ (y 0) (y 1)) := by
  funext y
  conv_lhs => rw [eq_ix2 y]
  exact congrArg v (reshapeEquiv_ix2_1ab _ _ _)
theorem main_congr {v v' : S1x8x125504.Idx → Elt F .f32} {last : Prop} (h : AgreeAt last v v') (g : S8x125504.Idx → Elt F .f32 → Elt F .f32) :
    extractStridedSlice S8x124928 ![0, 0] (fun y : S8x125504.Idx => g y (v (ix3 ⟨0, Nat.one_pos⟩ (y 0) (y 1)))) slices_S8x125504_o0_0_S8x124928
      = extractStridedSlice S8x124928 ![0, 0] (fun y : S8x125504.Idx => g y (v' (ix3 ⟨0, Nat.one_pos⟩ (y 0) (y 1)))) slices_S8x125504_o0_0_S8x124928 := by
  funext y
  refine congrArg (g _) (h _ (.inl ?_))
  show 0 + (y 1).val < 124928
  have : (y 1).val < 124928 := (y 1).isLt
  omega

theorem select_zero {α : Type} (a b : α) : Scalar.select 0#1 a b = b := rfl
theorem select_one {α : Type} (a b : α) : Scalar.select 1#1 a b = a := rfl

theorem agree_all {v v' : S1x8x125504.Idx → Elt F .f32} {last : Prop} (h : AgreeAt last v v') (hl : last) : v = v' := funext fun y => h y (.inr hl)

theorem pay1_congr (k : Trip) {v v' : S1x8x125504.Idx → Elt F .f32} (h : AgreeAt (k.val % 8 = 7) v v') (a : ColV F) :
    k0_pay1 k v a = k0_pay1 k v' a := by
  by_cases hk : k.val % 8 = 7
  · rw [agree_all h hk]
  · have e : extractStridedSlice S8x124928 ![0, 0] (shapeCast S8x125504 v shapeCasts_S1x8x125504_S8x125504) slices_S8x125504_o0_0_S8x124928
        = extractStridedSlice S8x124928 ![0, 0] (shapeCast S8x125504 v' shapeCasts_S1x8x125504_S8x125504) slices_S8x125504_o0_0_S8x124928 := by
      rw [cast_slot, cast_slot]
      exact main_congr h (fun _ x => x)
    unfold k0_pay1
    simp only [core_bit k hk, select_zero, e]
theorem pay1_first (k : Trip) (hk : k.val % 8 = 0) (v : S1x8x125504.Idx → Elt F .f32) (a a' : ColV F) : k0_pay1 k v a = k0_pay1 k v a' := by
  unfold k0_pay1
  simp only [first_bit k hk]
  rfl
theorem pay2_congr (k : Trip) {v v' : S1x8x125504.Idx → Elt F .f32} (h : AgreeAt (k.val % 8 = 7) v v') (m a : ColV F) :
    k0_pay2 k v m a = k0_pay2 k v' m a := by
  by_cases hk : k.val % 8 = 7
  · rw [agree_all h hk]
  · have e : extractStridedSlice S8x124928 ![0, 0]
          (exp (subf (shapeCast S8x125504 v shapeCasts_S1x8x125504_S8x125504) (broadcastTo S8x125504 m broadcasts_S8x1_S8x125504))) slices_S8x125504_o0_0_S8x124928
        = extractStridedSlice S8x124928 ![0, 0]
          (exp (subf (shapeCast S8x125504 v' shapeCasts_S1x8x125504_S8x125504) (broadcastTo S8x125504 m broadcasts_S8x1_S8x125504))) slices_S8x125504_o0_0_S8x124928 := by
      rw [cast_slot, cast_slot]
      exact main_congr h (fun y x => exp (subf (fun _ : S8x125504.Idx => x) (broadcastTo S8x125504 m broadcasts_S8x1_S8x125504)) y)
    unfold k0_pay2
    simp only [core_bit k hk, select_zero, e]
theorem pay2_first (k : Trip) (hk : k.val % 8 = 0) (v : S1x8x125504.Idx → Elt F .f32) (m a a' : ColV F) : k0_pay2 k v m a = k0_pay2 k v m a' := by
  unfold k0_pay2
  simp only [first_bit k hk]
  rfl
/-- The scaled exponentials are computed entry by entry. -/
theorem pay3_congr {v v' : S1x8x125504.Idx → Elt F .f32} (m a : ColV F) (y : S1x8x125504.Idx) (h : v y = v' y) :
    k0_pay3 v m a y = k0_pay3 v' m a y := by
  have hy : Shape.reshapeEquiv shapeCasts_S1x8x125504_S8x125504 (Shape.reshapeEquiv shapeCasts_S8x125504_S1x8x125504 y) = y := by
    rw [Shape.reshapeEquiv_reshapeEquiv, Shape.reshapeEquiv_self]
  have hc : shapeCast S8x125504 v shapeCasts_S1x8x125504_S8x125504 (Shape.reshapeEquiv shapeCasts_S8x125504_S1x8x125504 y)
      = shapeCast S8x125504 v' shapeCasts_S1x8x125504_S8x125504 (Shape.reshapeEquiv shapeCasts_S8x125504_S1x8x125504 y) := by
    show v _ = v' _
    rw [hy]; exact h
  show FloatOps.mulf (FloatOps.exp (FloatOps.subf (shapeCast S8x125504 v _ _) _)) _ = FloatOps.mulf (FloatOps.exp (FloatOps.subf (shapeCast S8x125504 v' _ _) _)) _
  rw [hc]

/-! ## The running maximum and the running sum -/

section Acc
variable (X : Arr F) (i : Coord)

/-- The running maximum before trip `k` (what the first trip finds there does not matter). -/
def mAt : ℕ → ColV F
  | 0 => fun _ => X (ix2 ⟨0, by decide⟩ ⟨0, by decide⟩)
  | k + 1 =>
    if h : k < k0_t1_loop.trips then
      if phase ⟨k, h⟩ = 0 then k0_pay1 ⟨k, h⟩ (slotOf (slot (jobOf ⟨k, h⟩)) (jobPart X i (jobOf ⟨k, h⟩))) (mAt k) else mAt k
    else mAt k
/-- The running sum before trip `k`. -/
def sAt : ℕ → ColV F
  | 0 => fun _ => X (ix2 ⟨0, by decide⟩ ⟨0, by decide⟩)
  | k + 1 =>
    if h : k < k0_t1_loop.trips then
      if phase ⟨k, h⟩ = 1 then k0_pay2 ⟨k, h⟩ (slotOf (slot (jobOf ⟨k, h⟩)) (jobPart X i (jobOf ⟨k, h⟩))) (mAt X i k) (sAt k) else sAt k
    else sAt k

theorem mAt_max (k : Trip) (h : phase k = 0) :
    mAt X i (k.val + 1) = k0_pay1 k (slotOf (slot (jobOf k)) (jobPart X i (jobOf k))) (mAt X i k.val) := by
  rw [mAt, dif_pos k.isLt, if_pos h]
theorem mAt_keep (k : Trip) (h : phase k ≠ 0) : mAt X i (k.val + 1) = mAt X i k.val := by
  rw [mAt, dif_pos k.isLt, if_neg h]
theorem sAt_sum (k : Trip) (h : phase k = 1) :
    sAt X i (k.val + 1) = k0_pay2 k (slotOf (slot (jobOf k)) (jobPart X i (jobOf k))) (mAt X i k.val) (sAt X i k.val) := by
  rw [sAt, dif_pos k.isLt, if_pos h]
theorem sAt_keep (k : Trip) (h : phase k ≠ 1) : sAt X i (k.val + 1) = sAt X i k.val := by
  rw [sAt, dif_pos k.isLt, if_neg h]

/-- The trip that fetches, and the one that writes out, job `j`. -/
def tripIn (j : Fin 16) : ℕ := 24 * (j.val / 8) + j.val % 8
def tripOut (j : Fin 16) : ℕ := tripIn j + 16

/-- What job `j` writes out, as a slot. -/
def outAt (j : Fin 16) : S1x8x125504.Idx → Elt F .f32 :=
  k0_pay3 (slotOf (slot j) (jobPart X i j)) (mAt X i (tripOut j)) (sAt X i (tripOut j))

end Acc

/-- The core numbered `n`. -/
def coreOf (n : Fin 2) : Coord := fun a => match a with | ⟨0, _⟩ => n
theorem coreOf_self (i : Coord) : coreOf (i 0) = i := by
  funext a
  match a with
  | ⟨0, _⟩ => rfl

/-- The output at a row and a column: the job that holds it, at its place in that job's slot. -/
def outCell (X : Arr F) (n : Fin 2) (j : Fin 16) (p : Fin 8) (q : Fin 125504) : Elt F .f32 := outAt X (coreOf n) j (ix3 ⟨0, Nat.one_pos⟩ p q)
/-- The output array. -/
def outArr (X : Arr F) : Arr F := fun z =>
  outCell X ⟨(z 0).val / 16, by have : (z 0).val < 32 := (z 0).isLt; omega⟩
    ⟨(z 0).val / 8 % 2 * 8 + min ((z 1).val / 124928) 7, by omega⟩
    ⟨(z 0).val % 8, by omega⟩
    ⟨(z 1).val - min ((z 1).val / 124928) 7 * 124928, by have : (z 1).val < 1000000 := (z 1).isLt; omega⟩

theorem outArr_job (X : Arr F) (i : Coord) (j : Fin 16) (y : S13x8x125504.Idx) (h : (y 2).val < 124928 ∨ j.val % 8 = 7) :
    jobPart (outArr X) i j y = outAt X i j (ix3 ⟨0, Nat.one_pos⟩ (y 1) (y 2)) := by
  have hi := core_lt i
  have hj := j.isLt
  have h1 : (y 1).val < 8 := (y 1).isLt
  have h2 : (y 2).val < 125504 := (y 2).isLt
  have hn : ((i 0).val * 2 + j.val / 8) * 8 + (y 1).val = (i 0).val * 16 + (j.val / 8 * 8 + (y 1).val) := by ring
  have hm : min ((j.val % 8 * 124928 + (y 2).val) / 124928) 7 = j.val % 8 := by omega
  have e : ∀ (n n' : Fin 2) (a a' : Fin 16) (p p' : Fin 8) (q q' : Fin 125504), n = n' → a = a' → p = p' → q = q' →
      outCell X n a p q = outCell X n' a' p' q' := by rintro n _ a _ p _ q _ rfl rfl rfl rfl; rfl
  have e2 : outCell X (i 0) j (y 1) (y 2) = outAt X i j (ix3 ⟨0, Nat.one_pos⟩ (y 1) (y 2)) := by
    unfold outCell; rw [coreOf_self]
  refine Eq.trans ?_ e2
  unfold jobPart outArr
  refine e _ _ _ _ _ _ _ _ (Fin.ext ?_) (Fin.ext ?_) (Fin.ext ?_) (Fin.ext ?_)
  · show (((i 0).val * 2 + j.val / 8) * 8 + (y 1).val) / 16 = (i 0).val
    omega
  · show (((i 0).val * 2 + j.val / 8) * 8 + (y 1).val) / 8 % 2 * 8 + min ((j.val % 8 * 124928 + (y 2).val) / 124928) 7 = j.val
    omega
  · show (((i 0).val * 2 + j.val / 8) * 8 + (y 1).val) % 8 = (y 1).val
    omega
  · show j.val % 8 * 124928 + (y 2).val - min ((j.val % 8 * 124928 + (y 2).val) / 124928) 7 * 124928 = (y 2).val
    omega

theorem out_eq (X : Arr F) (i : Coord) (j : Fin 16) (s : Fin 13) (f : RingV F) (y : S13x8x125504.Idx)
    (h : (y 2).val < 124928 ∨ j.val % 8 = 7) (hs : (y 0).val = s.val) (hf : f y = jobPart X i j y) :
    ofSlot (k0_pay3 (slotOf s f) (mAt X i (tripOut j)) (sAt X i (tripOut j))) y = jobPart (outArr X) i j y := by
  rw [outArr_job X i j y h]
  refine pay3_congr _ _ _ ?_
  show f (ix3 s (y 1) (y 2)) = jobPart X i j (ix3 (slot j) (y 1) (y 2))
  have hy : (ix3 s (y 1) (y 2) : S13x8x125504.Idx) = y := by
    funext a
    match a with
    | ⟨0, _⟩ => exact Fin.ext hs.symm
    | ⟨1, _⟩ => rfl
    | ⟨2, _⟩ => rfl
  exact (congrArg f hy).trans (hf.trans rfl)

end Cert.Run.Kernel

end
-- ==== Proof.Kernel.Jobs.lean ====
/-
  A job's life: what a core holds of job `j` in each state, and the moves from one state to the next.
-/
module

public import proofs.«01_k».proof.Proof.Kernel.Values

@[expose] public section

set_option maxRecDepth 16384

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Idealize.ShloMosaic.ValueIdx (ix2 ix3)

variable {F : FTy → Type} [FloatOps F]

local notation "𝕄" => MT nD τ sig Unit (Elt F) ℕ (UC sig nD τ) ℕ

/-- The job is a row group's last chunk, the one with a tail. -/
abbrev last (j : Fin 16) : Prop := j.val % 8 = 7

section States
variable (c : Dev nD) (X : Arr F) (i : Coord) (j : Fin 16)

/-- The input's blocks of job `j`. -/
def homeIn : sProp 𝕄 := iprop(inP c (mH i j) X ∗ (if last j then inP c (tH i j) X else emp))
/-- The output's blocks of job `j`, whatever they hold. -/
def homeOut : sProp 𝕄 := iprop((∃ f, outP (F := F) c (mH i j) f) ∗ (if last j then iprop(∃ f, outP (F := F) c (tH i j) f) else emp))
/-- The output's blocks of job `j`, written. -/
def doneOut : sProp 𝕄 := iprop(outP c (mH i j) (outArr X) ∗ (if last j then outP c (tH i j) (outArr X) else emp))
/-- A slot at rest: its elements, whatever they hold, and its four semaphores at zero. -/
def idle (s : Fin 13) : sProp 𝕄 :=
  iprop((∃ f, ringP (F := F) c (mS s) f) ∗ (∃ f, ringP (F := F) c (tS s) f)
    ∗ semP (F := F) c cc0_scratch3 s ∗ semP (F := F) c cc0_scratch4 s ∗ semP (F := F) c cc0_scratch5 s ∗ semP (F := F) c cc0_scratch6 s)
/-- A job on its way in. -/
def coming : sProp 𝕄 :=
  iprop(flyP c cc0_scratch3 (slot j) 124928 iprop(ringP c (mS (slot j)) (jobPart X i j) ∗ inP c (mH i j) X)
    ∗ (if last j then flyP c cc0_scratch5 (slot j) 640 iprop(ringP c (tS (slot j)) (jobPart X i j) ∗ inP c (tH i j) X)
        else iprop((∃ f, ringP (F := F) c (tS (slot j)) f) ∗ semP (F := F) c cc0_scratch5 (slot j)))
    ∗ semP (F := F) c cc0_scratch4 (slot j) ∗ semP (F := F) c cc0_scratch6 (slot j) ∗ homeOut (F := F) c i j)
/-- A job loaded: its slot agrees with its part of the input where it has data. -/
def loaded : sProp 𝕄 :=
  iprop((∃ f, ⌜∀ y : S13x8x125504.Idx, (y 0).val = (slot j).val → ((y 2).val < 124928 ∨ last j) → f y = jobPart X i j y⌝ ∗ ringP c (wS (slot j)) f)
    ∗ homeIn c X i j
    ∗ semP (F := F) c cc0_scratch3 (slot j) ∗ semP (F := F) c cc0_scratch4 (slot j) ∗ semP (F := F) c cc0_scratch5 (slot j) ∗ semP (F := F) c cc0_scratch6 (slot j)
    ∗ homeOut (F := F) c i j)
/-- A job on its way out. -/
def going : sProp 𝕄 :=
  iprop(flyP c cc0_scratch4 (slot j) 124928 iprop(outP c (mH i j) (outArr X) ∗ ringP c (mS (slot j)) (jobPart (outArr X) i j))
    ∗ (if last j then flyP c cc0_scratch6 (slot j) 640 iprop(outP c (tH i j) (outArr X) ∗ ringP c (tS (slot j)) (jobPart (outArr X) i j))
        else iprop((∃ f, ringP (F := F) c (tS (slot j)) f) ∗ semP (F := F) c cc0_scratch6 (slot j)))
    ∗ homeIn c X i j ∗ semP (F := F) c cc0_scratch3 (slot j) ∗ semP (F := F) c cc0_scratch5 (slot j))

/-- What is held of job `j` in state `n`: 0 not begun and without a slot, 1 on its way in, 2 loaded, 3 on its way out, 4 written and keeping
    its slot, 5 written and its slot given up, 6 not begun and with a slot. -/
def JR (j : Fin 16) : ℕ → sProp 𝕄
  | 0 => iprop(homeIn c X i j ∗ homeOut (F := F) c i j)
  | 1 => coming c X i j
  | 2 => loaded c X i j
  | 3 => going c X i j
  | 4 => iprop(homeIn c X i j ∗ doneOut c X i j ∗ idle (F := F) c (slot j))
  | 5 => iprop(homeIn c X i j ∗ doneOut c X i j)
  | _ => iprop(homeIn c X i j ∗ homeOut (F := F) c i j ∗ idle (F := F) c (slot j))

end States

/-! ## Moves -/

section Moves
variable (c : Dev nD) (X : Arr F) (i : Coord) (j : Fin 16)
variable {α : Type} {Q : α → sProp (MT nD τ sig Unit (Elt F) ℕ (UC sig nD τ) ℕ)} {k : PUnit → Prog (TpuEff nD τ sig (Elt F) Λ₀ .tc) α}

/-- A job without a tail sets out: its one copy in starts. -/
theorem begin_main (hj : ¬ last j) {s : Fin 13} (hs : slot j = s) {o1 : Fin 2 → ℕ} {h1} {o2 : Fin 3 → ℕ} {h2} {o3 : Fin 1 → ℕ} {h3} {hsrc hdst hsem}
    (e1 : o1 = blkOff i j) (e2 : o2 = slotOff s) (e3 : o3 = semOff s) :
    iprop(homeIn c X i j ∗ homeOut (F := F) c i j ∗ idle (F := F) c s)
      ⊢ iprop((coming c X i j -∗ wpc c (k ⟨⟩) Q)
          -∗ wpc c (.op (.enqueueDma (blk xM o1 h1) (.here (slM o2 h2)) (.dma (smAt cc0_scratch3 o3 h3).sem) hsrc hdst hsem) k) Q) := by
  subst hs
  unfold homeIn idle coming
  rw [if_neg hj, if_neg hj]
  iintro ⟨⟨Hi, -⟩, Ho, Hm, Ht, H3, H4, H5, H6⟩ Hk
  iapply (start_in c X i j (slot j) cc0_scratch3 e1 e2 e3) $$ [Hi Hm H3]
  · isplitl [Hi]; · iexact Hi
    isplitl [Hm]; · iexact Hm
    iexact H3
  iintro Hf
  iapply Hk
  isplitl [Hf]; · iexact Hf
  isplitl [Ht H5]
  · isplitl [Ht] <;> iassumption
  isplitl [H4]; · iexact H4
  isplitl [H6]; · iexact H6
  iexact Ho

/-- A job with a tail sets out: its two copies in start. -/
theorem begin_both (hj : last j) {s : Fin 13} (hs : slot j = s) {o1 : Fin 2 → ℕ} {h1} {o2 : Fin 3 → ℕ} {h2} {o3 : Fin 1 → ℕ} {h3} {hsrc hdst hsem}
    {p1 : Fin 2 → ℕ} {g1} {p2 : Fin 3 → ℕ} {g2} {p3 : Fin 1 → ℕ} {g3} {gsrc gdst gsem}
    (e1 : o1 = blkOff i j) (e2 : o2 = slotOff s) (e3 : o3 = semOff s)
    (d1 : p1 = tailOff i j) (d2 : p2 = slotTailOff s) (d3 : p3 = semOff s) :
    iprop(homeIn c X i j ∗ homeOut (F := F) c i j ∗ idle (F := F) c s)
      ⊢ iprop((coming c X i j -∗ wpc c (k ⟨⟩) Q)
          -∗ wpc c (.op (.enqueueDma (blk xM o1 h1) (.here (slM o2 h2)) (.dma (smAt cc0_scratch3 o3 h3).sem) hsrc hdst hsem)
              fun _ => .op (.enqueueDma (blkT xM p1 g1) (.here (slT p2 g2)) (.dma (smAt cc0_scratch5 p3 g3).sem) gsrc gdst gsem) k) Q) := by
  subst hs
  unfold homeIn idle coming
  rw [if_pos hj, if_pos hj]
  iintro ⟨⟨Hi, Hit⟩, Ho, Hm, Ht, H3, H4, H5, H6⟩ Hk
  iapply (start_in c X i j (slot j) cc0_scratch3 e1 e2 e3) $$ [Hi Hm H3]
  · isplitl [Hi]; · iexact Hi
    isplitl [Hm]; · iexact Hm
    iexact H3
  iintro Hf
  iapply (start_inT c X i j (slot j) cc0_scratch5 hj d1 d2 d3) $$ [Hit Ht H5]
  · isplitl [Hit]; · iexact Hit
    isplitl [Ht]; · iexact Ht
    iexact H5
  iintro Hg
  iapply Hk
  isplitl [Hf]; · iexact Hf
  isplitl [Hg]; · iexact Hg
  isplitl [H4]; · iexact H4
  isplitl [H6]; · iexact H6
  iexact Ho

/-- The rest of a slot, and its whole, from its two parts. -/
theorem slot_join (s : Fin 13) (f g : RingV F) :
    iprop(ringP c (mS s) f ∗ ringP c (tS s) g)
      ⊢ ringP c (wS s) (fun y => if (y 2).val < 124928 then f y else g y) := by
  have e1 : ringP c (mS s) f = ringP c (mS s) (fun y => if (y 2).val < 124928 then f y else g y) :=
    pointsTo_congr fun y hy => (if_pos ((mem_mS s y).mp hy).2).symm
  have e2 : ringP c (tS s) g = ringP c (tS s) (fun y => if (y 2).val < 124928 then f y else g y) :=
    pointsTo_congr fun y hy => (if_neg (by have := ((mem_tS s y).mp hy).2; omega)).symm
  rw [e1, e2, ← union_mt]
  exact (pointsTo_union (disj_mt s)).2
theorem slot_split (s : Fin 13) (f : RingV F) : ringP c (wS s) f ⊢ iprop(ringP c (mS s) f ∗ ringP c (tS s) f) := by
  rw [← union_mt]
  exact (pointsTo_union (disj_mt s)).1

/-- A job without a tail lands: its copy in is waited for. -/
theorem arrive_main (hj : ¬ last j) {o1 : Fin 2 → ℕ} {h1} {o2 : Fin 3 → ℕ} {h2} {o3 : Fin 1 → ℕ} {h3} {hsrc hdst} (e3 : o3 = semOff (slot j)) :
    iprop(coming c X i j ∗ owP (F := F) c)
      ⊢ iprop((iprop(loaded c X i j ∗ owP (F := F) c) -∗ wpc c (k ⟨⟩) Q)
          -∗ wpc c (.op (.waitDma2 (smAt cc0_scratch3 o3 h3).sem (blk xM o1 h1) (slM o2 h2) hsrc hdst) k) Q) := by
  unfold coming loaded homeIn
  rw [if_neg hj, if_neg hj]
  iintro ⟨⟨Hf, ⟨⟨%g, Ht⟩, H5⟩, H4, H6, Ho⟩, Hw⟩ Hk
  iapply (wait_sem c (slot j) cc0_scratch3 124928 (amount_slM _ _) e3 _) $$ [Hf Hw]
  · isplitl [Hf] <;> iassumption
  iintro ⟨⟨Hm, Hi⟩, H3, Hw⟩
  iapply Hk
  isplitr [Hw]
  · isplitl [Hm Ht]
    · iexists _
      isplitr [Hm Ht]; rotate_left
      · iapply (slot_join c (slot j) _ g)
        isplitl [Hm] <;> iassumption
      · ipureintro
        intro y hy h
        exact if_pos (h.resolve_right hj)
    isplitl [Hi]
    · isplitl [Hi]; · iexact Hi
      iempintro
    isplitl [H3]; · iexact H3
    isplitl [H4]; · iexact H4
    isplitl [H5]; · iexact H5
    isplitl [H6]; · iexact H6
    iexact Ho
  · iexact Hw

/-- A job with a tail lands: its two copies in are waited for. -/
theorem arrive_both (hj : last j) {o1 : Fin 2 → ℕ} {h1} {o2 : Fin 3 → ℕ} {h2} {o3 : Fin 1 → ℕ} {h3} {hsrc hdst}
    {p1 : Fin 2 → ℕ} {g1} {p2 : Fin 3 → ℕ} {g2} {p3 : Fin 1 → ℕ} {g3} {gsrc gdst} (e3 : o3 = semOff (slot j)) (d3 : p3 = semOff (slot j)) :
    iprop(coming c X i j ∗ owP (F := F) c)
      ⊢ iprop((iprop(loaded c X i j ∗ owP (F := F) c) -∗ wpc c (k ⟨⟩) Q)
          -∗ wpc c (.op (.waitDma2 (smAt cc0_scratch3 o3 h3).sem (blk xM o1 h1) (slM o2 h2) hsrc hdst)
              fun _ => .op (.waitDma2 (smAt cc0_scratch5 p3 g3).sem (blkT xM p1 g1) (slT p2 g2) gsrc gdst) k) Q) := by
  unfold coming loaded homeIn
  rw [if_pos hj, if_pos hj]
  iintro ⟨⟨Hf, Hg, H4, H6, Ho⟩, Hw⟩ Hk
  iapply (wait_sem c (slot j) cc0_scratch3 124928 (amount_slM _ _) e3 _) $$ [Hf Hw]
  · isplitl [Hf] <;> iassumption
  iintro ⟨⟨Hm, Hi⟩, H3, Hw⟩
  iapply (wait_sem c (slot j) cc0_scratch5 640 (amount_slT _ _) d3 _) $$ [Hg Hw]
  · isplitl [Hg] <;> iassumption
  iintro ⟨⟨Ht, Hit⟩, H5, Hw⟩
  iapply Hk
  isplitr [Hw]
  · isplitl [Hm Ht]
    · iexists _
      isplitr [Hm Ht]; rotate_left
      · iapply (slot_join c (slot j) _ _)
        isplitl [Hm] <;> iassumption
      · ipureintro
        intro y hy h
        exact ite_self _
    isplitl [Hi Hit]
    · isplitl [Hi] <;> iassumption
    isplitl [H3]; · iexact H3
    isplitl [H4]; · iexact H4
    isplitl [H5]; · iexact H5
    isplitl [H6]; · iexact H6
    iexact Ho
  · iexact Hw

/-- A job without a tail is out: its copy out is waited for. -/
theorem finish_main (hj : ¬ last j) {o1 : Fin 2 → ℕ} {h1} {o2 : Fin 3 → ℕ} {h2} {o3 : Fin 1 → ℕ} {h3} {hsrc hdst} (e3 : o3 = semOff (slot j)) :
    iprop(going c X i j ∗ owP (F := F) c)
      ⊢ iprop((iprop((homeIn c X i j ∗ doneOut c X i j ∗ idle (F := F) c (slot j)) ∗ owP (F := F) c) -∗ wpc c (k ⟨⟩) Q)
          -∗ wpc c (.op (.waitDma2 (smAt cc0_scratch4 o3 h3).sem (slM o2 h2) (blk yM o1 h1) hsrc hdst) k) Q) := by
  unfold going doneOut idle
  rw [if_neg hj, if_neg hj]
  iintro ⟨⟨Hf, ⟨Ht, H6⟩, Hi, H3, H5⟩, Hw⟩ Hk
  iapply (wait_sem c (slot j) cc0_scratch4 124928 (amount_yblk _ _) e3 _) $$ [Hf Hw]
  · isplitl [Hf] <;> iassumption
  iintro ⟨⟨Ho, Hm⟩, H4, Hw⟩
  iapply Hk
  isplitr [Hw]
  · isplitl [Hi]; · iexact Hi
    isplitl [Ho]
    · isplitl [Ho]; · iexact Ho
      iempintro
    isplitl [Hm]; · iexists _; iexact Hm
    isplitl [Ht]; · iexact Ht
    isplitl [H3]; · iexact H3
    isplitl [H4]; · iexact H4
    isplitl [H5]; · iexact H5
    iexact H6
  · iexact Hw

/-- A job with a tail is out: its two copies out are waited for. -/
theorem finish_both (hj : last j) {o1 : Fin 2 → ℕ} {h1} {o2 : Fin 3 → ℕ} {h2} {o3 : Fin 1 → ℕ} {h3} {hsrc hdst}
    {p1 : Fin 2 → ℕ} {g1} {p2 : Fin 3 → ℕ} {g2} {p3 : Fin 1 → ℕ} {g3} {gsrc gdst} (e3 : o3 = semOff (slot j)) (d3 : p3 = semOff (slot j)) :
    iprop(going c X i j ∗ owP (F := F) c)
      ⊢ iprop((iprop((homeIn c X i j ∗ doneOut c X i j ∗ idle (F := F) c (slot j)) ∗ owP (F := F) c) -∗ wpc c (k ⟨⟩) Q)
          -∗ wpc c (.op (.waitDma2 (smAt cc0_scratch4 o3 h3).sem (slM o2 h2) (blk yM o1 h1) hsrc hdst)
              fun _ => .op (.waitDma2 (smAt cc0_scratch6 p3 g3).sem (slT p2 g2) (blkT yM p1 g1) gsrc gdst) k) Q) := by
  unfold going doneOut idle
  rw [if_pos hj, if_pos hj]
  iintro ⟨⟨Hf, Hg, Hi, H3, H5⟩, Hw⟩ Hk
  iapply (wait_sem c (slot j) cc0_scratch4 124928 (amount_yblk _ _) e3 _) $$ [Hf Hw]
  · isplitl [Hf] <;> iassumption
  iintro ⟨⟨Ho, Hm⟩, H4, Hw⟩
  iapply (wait_sem c (slot j) cc0_scratch6 640 (amount_yblkT _ _) d3 _) $$ [Hg Hw]
  · isplitl [Hg] <;> iassumption
  iintro ⟨⟨Hot, Ht⟩, H6, Hw⟩
  iapply Hk
  isplitr [Hw]
  · isplitl [Hi]; · iexact Hi
    isplitl [Ho Hot]
    · isplitl [Ho] <;> iassumption
    isplitl [Hm]; · iexists _; iexact Hm
    isplitl [Ht]; · iexists _; iexact Ht
    isplitl [H3]; · iexact H3
    isplitl [H4]; · iexact H4
    isplitl [H5]; · iexact H5
    iexact H6
  · iexact Hw

/-! What is done with a loaded job -/

/-- Loading a loaded job's slot: some slot that agrees with the job's part of the input where it has data. -/
theorem load_job {o : Fin 3 → ℕ} {h hl} {kk : (S1x8x125504.Idx → Elt F .f32) → Prog (TpuEff nD τ sig (Elt F) Λ₀ .tc) α} (e : o = slotOff (slot j)) :
    loaded c X i j
      ⊢ iprop((∀ v, ⌜AgreeAt (last j) v (slotOf (slot j) (jobPart X i j))⌝ -∗ loaded c X i j -∗ wpc c (kk v) Q)
          -∗ wpc c (.op (.load ringM (Rect.unit (s := S13x8x125504) o S1x8x125504.size h).toLoadRect hl) kk) Q) := by
  unfold loaded
  iintro ⟨⟨%f, %hf, Hf⟩, Hrest⟩ Hk
  iapply (load_slot c (slot j) e f) $$ Hf
  iintro Hf
  iapply Hk $$ %(slotOf (slot j) f) [] [Hf Hrest]
  · ipureintro
    intro y hy
    exact hf (ix3 (slot j) (y 1) (y 2)) rfl hy
  · isplitl [Hf]
    · iexists f
      isplitr; · ipureintro; exact hf
      iexact Hf
    iexact Hrest

/-- What writing a job out leaves to be sent: its slot at the output's values where it has data. -/
def ready : sProp 𝕄 :=
  iprop(ringP c (mS (slot j)) (jobPart (outArr X) i j)
    ∗ (if last j then ringP c (tS (slot j)) (jobPart (outArr X) i j) else iprop(∃ f, ringP (F := F) c (tS (slot j)) f))
    ∗ homeIn c X i j
    ∗ semP (F := F) c cc0_scratch3 (slot j) ∗ semP (F := F) c cc0_scratch4 (slot j) ∗ semP (F := F) c cc0_scratch5 (slot j) ∗ semP (F := F) c cc0_scratch6 (slot j)
    ∗ homeOut (F := F) c i j)

/-- Overwriting a loaded job's slot by its scaled exponentials. -/
theorem store_job {o : Fin 3 → ℕ} {h hx hm} (e : o = slotOff (slot j)) (v : S1x8x125504.Idx → Elt F .f32)
    (hv : AgreeAt (last j) v (slotOf (slot j) (jobPart X i j))) :
    loaded c X i j
      ⊢ iprop((ready c X i j -∗ wpc c (k ⟨⟩) Q)
          -∗ wpc c (.op (.store ringM (Rect.unit (s := S13x8x125504) o S1x8x125504.size h) (k0_pay3 v (mAt X i (tripOut j)) (sAt X i (tripOut j)))
              Finset.univ hx hm) k) Q) := by
  unfold loaded ready
  iintro ⟨⟨%f, %hf, Hf⟩, Hrest⟩ Hk
  iapply (store_slot c (slot j) e f _) $$ Hf
  iintro Hf
  iapply Hk
  have hw : ∀ y : S13x8x125504.Idx, ((y 2).val < 124928 ∨ last j) →
      ofSlot (k0_pay3 v (mAt X i (tripOut j)) (sAt X i (tripOut j))) y = jobPart (outArr X) i j y := by
    intro y h
    rw [outArr_job X i j y h]
    exact pay3_congr _ _ _ (hv _ h)
  have e1 : ringP c (mS (slot j)) (ofSlot (k0_pay3 v (mAt X i (tripOut j)) (sAt X i (tripOut j)))) = ringP c (mS (slot j)) (jobPart (outArr X) i j) :=
    pointsTo_congr fun y hy => hw y (.inl ((mem_mS _ y).mp hy).2)
  ihave H := (slot_split c (slot j) _) $$ Hf
  icases H with ⟨Hm, Ht⟩
  isplitl [Hm]
  · irw [← e1]
    iexact Hm
  isplitl [Ht]
  · by_cases hj : last j
    · have e2 : ringP c (tS (slot j)) (ofSlot (k0_pay3 v (mAt X i (tripOut j)) (sAt X i (tripOut j)))) = ringP c (tS (slot j)) (jobPart (outArr X) i j) :=
        pointsTo_congr fun y hy => hw y (.inr hj)
      rw [if_pos hj, ← e2]
      iexact Ht
    · rw [if_neg hj]
      iexists _
      iexact Ht
  iexact Hrest

/-- A job without a tail is sent out. -/
theorem send_main (hj : ¬ last j) {o1 : Fin 2 → ℕ} {h1} {o2 : Fin 3 → ℕ} {h2} {o3 : Fin 1 → ℕ} {h3} {hsrc hdst hsem}
    (e1 : o1 = blkOff i j) (e2 : o2 = slotOff (slot j)) (e3 : o3 = semOff (slot j)) :
    ready c X i j
      ⊢ iprop((going c X i j -∗ wpc c (k ⟨⟩) Q)
          -∗ wpc c (.op (.enqueueDma (slM o2 h2) (.here (blk yM o1 h1)) (.dma (smAt cc0_scratch4 o3 h3).sem) hsrc hdst hsem) k) Q) := by
  unfold ready homeOut going
  rw [if_neg hj, if_neg hj, if_neg hj]
  iintro ⟨Hm, Ht, Hi, H3, H4, H5, H6, Ho, -⟩ Hk
  iapply (start_out c (outArr X) i j (slot j) cc0_scratch4 e1 e2 e3) $$ [Hm Ho H4]
  · isplitl [Hm]; · iexact Hm
    isplitl [Ho]; · iexact Ho
    iexact H4
  iintro Hf
  iapply Hk
  isplitl [Hf]; · iexact Hf
  isplitl [Ht H6]
  · isplitl [Ht] <;> iassumption
  isplitl [Hi]; · iexact Hi
  isplitl [H3]; · iexact H3
  iexact H5

/-- A job with a tail is sent out. -/
theorem send_both (hj : last j) {o1 : Fin 2 → ℕ} {h1} {o2 : Fin 3 → ℕ} {h2} {o3 : Fin 1 → ℕ} {h3} {hsrc hdst hsem}
    {p1 : Fin 2 → ℕ} {g1} {p2 : Fin 3 → ℕ} {g2} {p3 : Fin 1 → ℕ} {g3} {gsrc gdst gsem}
    (e1 : o1 = blkOff i j) (e2 : o2 = slotOff (slot j)) (e3 : o3 = semOff (slot j))
    (d1 : p1 = tailOff i j) (d2 : p2 = slotTailOff (slot j)) (d3 : p3 = semOff (slot j)) :
    ready c X i j
      ⊢ iprop((going c X i j -∗ wpc c (k ⟨⟩) Q)
          -∗ wpc c (.op (.enqueueDma (slM o2 h2) (.here (blk yM o1 h1)) (.dma (smAt cc0_scratch4 o3 h3).sem) hsrc hdst hsem)
              fun _ => .op (.enqueueDma (slT p2 g2) (.here (blkT yM p1 g1)) (.dma (smAt cc0_scratch6 p3 g3).sem) gsrc gdst gsem) k) Q) := by
  unfold ready homeOut going
  rw [if_pos hj, if_pos hj, if_pos hj]
  iintro ⟨Hm, Ht, Hi, H3, H4, H5, H6, Ho, Hot⟩ Hk
  iapply (start_out c (outArr X) i j (slot j) cc0_scratch4 e1 e2 e3) $$ [Hm Ho H4]
  · isplitl [Hm]; · iexact Hm
    isplitl [Ho]; · iexact Ho
    iexact H4
  iintro Hf
  iapply (start_outT c (outArr X) i j (slot j) cc0_scratch6 hj d1 d2 d3) $$ [Ht Hot H6]
  · isplitl [Ht]; · iexact Ht
    isplitl [Hot]; · iexact Hot
    iexact H6
  iintro Hg
  iapply Hk
  isplitl [Hf]; · iexact Hf
  isplitl [Hg]; · iexact Hg
  isplitl [Hi]; · iexact Hi
  isplitl [H3]; · iexact H3
  iexact H5

end Moves

end Cert.Run.Kernel

end
-- ==== Proof.Kernel.Trips.lean ====
/-
  One trip of the kernel's loop, by what it does: take a job in and update the running maximum, update the running
  sum, or write a job out (and then wait for an earlier job's copies out, and start a later job's copies in).
-/
module

public import proofs.«01_k».proof.Proof.Kernel.Jobs

@[expose] public section

set_option maxRecDepth 16384

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- Trip `k`'s program on core `i`. -/
abbrev tripP (i : Coord) (v0 : BitVec 32) (k : Trip) : Prog (TpuEff nD τ sig (Elt F) Λ₀ .tc) Unit :=
  k0_t1_body (F := F) i xM (Memref.isWhole_whole _) yM (Memref.isWhole_whole _) ringM (Memref.isWhole_whole _) maxM (Memref.isWhole_whole _)
    sumM (Memref.isWhole_whole _) cc0_scratch3 cc0_scratch4 cc0_scratch5 cc0_scratch6 v0 k ()

section Trips
variable (c : Dev nD) (X : Arr F) (i : Coord) (v0 : BitVec 32) (k : Trip)

omit [FloatOps F] in
theorem last_jobOf : last (jobOf k) ↔ k.val % 8 = 7 := by
  show (8 * (k.val / 24) + k.val % 8) % 8 = 7 ↔ _
  omega
theorem tripOut_eq (hp : phase k = 2) : k.val = tripOut (jobOf k) := by
  have := trip_lt k
  unfold phase at hp
  show k.val = 24 * ((8 * (k.val / 24) + k.val % 8) / 8) + (8 * (k.val / 24) + k.val % 8) % 8 + 16
  omega
theorem slot_next : ∀ k : Trip, 5 ≤ (jobOf k).val → (jobOf k).val < 8 → slot (jobNext k) = slot (jobPrev k) := by decide +kernel
theorem last_prev (h5 : 5 ≤ (jobOf k).val) : last (jobPrev k) ↔ (jobOf k).val = 12 := by
  have := trip_lt k
  change 5 ≤ 8 * (k.val / 24) + k.val % 8 at h5
  show (8 * (k.val / 24) + k.val % 8 - 5) % 8 = 7 ↔ 8 * (k.val / 24) + k.val % 8 = 12
  omega
theorem last_next (h8 : (jobOf k).val < 8) : last (jobNext k) ↔ (jobOf k).val = 7 := by
  have := trip_lt k
  change 8 * (k.val / 24) + k.val % 8 < 8 at h8
  show (8 * (k.val / 24) + k.val % 8 + 8) % 16 % 8 = 7 ↔ 8 * (k.val / 24) + k.val % 8 = 7
  omega

theorem wp_done {Q : Unit → sProp (MT nD τ sig Unit (Elt F) ℕ (UC sig nD τ) ℕ)} : Q () ⊢ wpc c (.ret ()) Q := by
  unfold wpc
  rw [wp_ret]
  iintro H
  imodintro
  iexact H

/-- A trip of phase 0 takes its job in and updates the running maximum. -/
theorem trip_max (hp : phase k = 0) (f : ColV F) :
    iprop(coming c X i (jobOf k) ∗ maxP c f ∗ owP (F := F) c)
      ⊢ wpc c (tripP i v0 k) (fun _ => iprop(loaded c X i (jobOf k)
          ∗ maxP c (k0_pay1 k (slotOf (slot (jobOf k)) (jobPart X i (jobOf k))) f) ∗ owP (F := F) c)) := by
  have h1 : k0_cond1 k = 1#1 := (cond1_iff k).mpr hp
  have h3 : ¬ k0_cond3 k = 1#1 := fun h => by have := (cond3_iff k).mp h; omega
  have h4 : ¬ k0_cond4 k = 1#1 := fun h => by have := (cond4_iff k).mp h; omega
  by_cases hl : last (jobOf k)
  · have h2 : k0_cond2 k = 1#1 := (cond2_iff k).mpr ((last_jobOf k).mp hl)
    unfold tripP k0_t1_body
    simp only [dif_pos h1, dif_pos h2, dif_neg h3, dif_neg h4, Prog.bind_lift, Prog.bind_op, Prog.pure_eq_ret, Prog.bind_ret]
    iintro ⟨Hj, Hm, Hw⟩
    iapply (arrive_both c X i (jobOf k) hl (off10_eq k) (off13_eq k)) $$ [Hj Hw]
    · isplitl [Hj] <;> iassumption
    iintro ⟨Hj, Hw⟩
    iapply (load_job c X i (jobOf k) (off16_eq k)) $$ Hj
    iintro %v %hv Hj
    iapply (load_max c f) $$ Hm
    iintro Hm
    iapply (load_max c f) $$ Hm
    iintro Hm
    iapply (store_max c f _) $$ Hm
    iintro Hm
    iapply (wp_done c)
    isplitl [Hj]; · iexact Hj
    isplitr [Hw]
    · irw [← pay1_congr k (fun y hy => hv y (hy.imp_right (last_jobOf k).mpr)) f]
      iexact Hm
    iexact Hw
  · have h2 : ¬ k0_cond2 k = 1#1 := fun h => hl ((last_jobOf k).mpr ((cond2_iff k).mp h))
    unfold tripP k0_t1_body
    simp only [dif_pos h1, dif_neg h2, dif_neg h3, dif_neg h4, Prog.bind_lift, Prog.bind_op, Prog.pure_eq_ret, Prog.bind_ret]
    iintro ⟨Hj, Hm, Hw⟩
    iapply (arrive_main c X i (jobOf k) hl (off10_eq k)) $$ [Hj Hw]
    · isplitl [Hj] <;> iassumption
    iintro ⟨Hj, Hw⟩
    iapply (load_job c X i (jobOf k) (off16_eq k)) $$ Hj
    iintro %v %hv Hj
    iapply (load_max c f) $$ Hm
    iintro Hm
    iapply (load_max c f) $$ Hm
    iintro Hm
    iapply (store_max c f _) $$ Hm
    iintro Hm
    iapply (wp_done c)
    isplitl [Hj]; · iexact Hj
    isplitr [Hw]
    · irw [← pay1_congr k (fun y hy => hv y (hy.imp_right (last_jobOf k).mpr)) f]
      iexact Hm
    iexact Hw

/-- A trip of phase 1 updates the running sum. -/
theorem trip_sum (hp : phase k = 1) (m f : ColV F) :
    iprop(loaded c X i (jobOf k) ∗ maxP c m ∗ sumP c f)
      ⊢ wpc c (tripP i v0 k) (fun _ => iprop(loaded c X i (jobOf k) ∗ maxP c m
          ∗ sumP c (k0_pay2 k (slotOf (slot (jobOf k)) (jobPart X i (jobOf k))) m f))) := by
  have h1 : ¬ k0_cond1 k = 1#1 := fun h => by have := (cond1_iff k).mp h; omega
  have h3 : k0_cond3 k = 1#1 := (cond3_iff k).mpr hp
  have h4 : ¬ k0_cond4 k = 1#1 := fun h => by have := (cond4_iff k).mp h; omega
  unfold tripP k0_t1_body
  simp only [dif_neg h1, dif_pos h3, dif_neg h4, Prog.bind_lift, Prog.bind_op, Prog.pure_eq_ret, Prog.bind_ret]
  iintro ⟨Hj, Hm, Hs⟩
  iapply (load_job c X i (jobOf k) (off17_eq k)) $$ Hj
  iintro %v %hv Hj
  iapply (load_max c m) $$ Hm
  iintro Hm
  iapply (load_sum c f) $$ Hs
  iintro Hs
  iapply (load_sum c f) $$ Hs
  iintro Hs
  iapply (store_sum c f _) $$ Hs
  iintro Hs
  iapply (wp_done c)
  isplitl [Hj]; · iexact Hj
  isplitl [Hm]; · iexact Hm
  irw [← pay2_congr k (fun y hy => hv y (hy.imp_right (last_jobOf k).mpr)) m f]
  iexact Hs

/-- A trip of phase 2, of the first five jobs: it only sends its job out. -/
theorem trip_out_first (hp : phase k = 2) (h5 : (jobOf k).val < 5) :
    iprop(loaded c X i (jobOf k) ∗ maxP c (mAt X i k.val) ∗ sumP c (sAt X i k.val) ∗ owP (F := F) c)
      ⊢ wpc c (tripP i v0 k) (fun _ => iprop(going c X i (jobOf k) ∗ maxP c (mAt X i k.val) ∗ sumP c (sAt X i k.val) ∗ owP (F := F) c)) := by
  have h1 : ¬ k0_cond1 k = 1#1 := fun h => by have := (cond1_iff k).mp h; omega
  have h3 : ¬ k0_cond3 k = 1#1 := fun h => by have := (cond3_iff k).mp h; omega
  have h4 : k0_cond4 k = 1#1 := (cond4_iff k).mpr hp
  have h6 : ¬ k0_cond6 k = 1#1 := fun h => by have := (cond6_iff k).mp h; omega
  have hl : ¬ last (jobOf k) := by show ¬ (jobOf k).val % 8 = 7; omega
  have hc5 : ¬ k0_cond5 k = 1#1 := fun h => hl ((last_jobOf k).mpr ((cond5_iff k).mp h))
  · unfold tripP k0_t1_body
    simp only [dif_neg h1, dif_neg h3, dif_pos h4, dif_neg hc5, dif_neg h6, Prog.bind_lift, Prog.bind_op, Prog.pure_eq_ret, Prog.bind_ret]
    iintro ⟨Hj, Hm, Hs, Hw⟩
    iapply (load_job c X i (jobOf k) (off18_eq k)) $$ Hj
    iintro %v %hv Hj
    iapply (load_max c _) $$ Hm
    iintro Hm
    iapply (load_sum c _) $$ Hs
    iintro Hs
    iapply (load_job c X i (jobOf k) (off18_eq k)) $$ Hj
    iintro %v' %hv' Hj
    rw [tripOut_eq k hp]
    iapply (store_job c X i (jobOf k) (off18_eq k) v hv) $$ Hj
    iintro Hj
    iapply (send_main c X i (jobOf k) hl (off20_eq i k) (off21_eq k) (off19_eq k)) $$ Hj
    iintro Hj
    iapply (wp_done c)
    isplitl [Hj]; · iexact Hj
    isplitl [Hm]; · iexact Hm
    isplitl [Hs]; · iexact Hs
    iexact Hw

/-- A trip of phase 2, of the last eight jobs: it sends its job out and waits for the job five before it. -/
theorem trip_out_late (hp : phase k = 2) (h8 : 8 ≤ (jobOf k).val) :
    iprop(loaded c X i (jobOf k) ∗ maxP c (mAt X i k.val) ∗ sumP c (sAt X i k.val) ∗ owP (F := F) c ∗ going c X i (jobPrev k))
      ⊢ wpc c (tripP i v0 k) (fun _ => iprop(going c X i (jobOf k) ∗ maxP c (mAt X i k.val) ∗ sumP c (sAt X i k.val) ∗ owP (F := F) c
          ∗ homeIn c X i (jobPrev k) ∗ doneOut c X i (jobPrev k) ∗ idle (F := F) c (slot (jobPrev k)))) := by
  have h1 : ¬ k0_cond1 k = 1#1 := fun h => by have := (cond1_iff k).mp h; omega
  have h3 : ¬ k0_cond3 k = 1#1 := fun h => by have := (cond3_iff k).mp h; omega
  have h4 : k0_cond4 k = 1#1 := (cond4_iff k).mpr hp
  have h5 : 5 ≤ (jobOf k).val := by omega
  have h6 : k0_cond6 k = 1#1 := (cond6_iff k).mpr h5
  have hn8 : ¬ k0_cond8 k = 1#1 := fun h => by have := (cond8_iff k h5).mp h; omega
  by_cases hl : last (jobOf k)
  · have hc5 : k0_cond5 k = 1#1 := (cond5_iff k).mpr ((last_jobOf k).mp hl)
    have hq : ¬ last (jobPrev k) := fun h => by have := (last_prev k h5).mp h; change (jobOf k).val % 8 = 7 at hl; omega
    have h7 : ¬ k0_cond7 k = 1#1 := fun h => hq ((last_prev k h5).mpr ((cond7_iff k h5).mp h))
    unfold tripP k0_t1_body
    simp only [dif_neg h1, dif_neg h3, dif_pos h4, dif_pos hc5, dif_pos h6, dif_neg h7, dif_neg hn8, Prog.bind_lift, Prog.bind_op, Prog.pure_eq_ret, Prog.bind_ret]
    iintro ⟨Hj, Hm, Hs, Hw, Hp⟩
    iapply (load_job c X i (jobOf k) (off18_eq k)) $$ Hj
    iintro %v %hv Hj
    iapply (load_max c _) $$ Hm
    iintro Hm
    iapply (load_sum c _) $$ Hs
    iintro Hs
    iapply (load_job c X i (jobOf k) (off18_eq k)) $$ Hj
    iintro %v' %hv' Hj
    rw [tripOut_eq k hp]
    iapply (store_job c X i (jobOf k) (off18_eq k) v hv) $$ Hj
    iintro Hj
    iapply (send_both c X i (jobOf k) hl (off20_eq i k) (off21_eq k) (off19_eq k) (off23_eq i k) (off24_eq k) (off22_eq k)) $$ Hj
    iintro Hj
    iapply (finish_main c X i (jobPrev k) hq (off25_eq k h5)) $$ [Hp Hw]
    · isplitl [Hp] <;> iassumption
    iintro ⟨Hp, Hw⟩
    iapply (wp_done c)
    isplitl [Hj]; · iexact Hj
    isplitl [Hm]; · iexact Hm
    isplitl [Hs]; · iexact Hs
    isplitl [Hw]; · iexact Hw
    iexact Hp
  · have hc5 : ¬ k0_cond5 k = 1#1 := fun h => hl ((last_jobOf k).mpr ((cond5_iff k).mp h))
    by_cases hq : last (jobPrev k)
    · have h7 : k0_cond7 k = 1#1 := (cond7_iff k h5).mpr ((last_prev k h5).mp hq)
      unfold tripP k0_t1_body
      simp only [dif_neg h1, dif_neg h3, dif_pos h4, dif_neg hc5, dif_pos h6, dif_pos h7, dif_neg hn8, Prog.bind_lift, Prog.bind_op, Prog.pure_eq_ret, Prog.bind_ret]
      iintro ⟨Hj, Hm, Hs, Hw, Hp⟩
      iapply (load_job c X i (jobOf k) (off18_eq k)) $$ Hj
      iintro %v %hv Hj
      iapply (load_max c _) $$ Hm
      iintro Hm
      iapply (load_sum c _) $$ Hs
      iintro Hs
      iapply (load_job c X i (jobOf k) (off18_eq k)) $$ Hj
      iintro %v' %hv' Hj
      rw [tripOut_eq k hp]
      iapply (store_job c X i (jobOf k) (off18_eq k) v hv) $$ Hj
      iintro Hj
      iapply (send_main c X i (jobOf k) hl (off20_eq i k) (off21_eq k) (off19_eq k)) $$ Hj
      iintro Hj
      iapply (finish_both c X i (jobPrev k) hq (off25_eq k h5) (off28_eq k h5)) $$ [Hp Hw]
      · isplitl [Hp] <;> iassumption
      iintro ⟨Hp, Hw⟩
      iapply (wp_done c)
      isplitl [Hj]; · iexact Hj
      isplitl [Hm]; · iexact Hm
      isplitl [Hs]; · iexact Hs
      isplitl [Hw]; · iexact Hw
      iexact Hp
    · have h7 : ¬ k0_cond7 k = 1#1 := fun h => hq ((last_prev k h5).mpr ((cond7_iff k h5).mp h))
      unfold tripP k0_t1_body
      simp only [dif_neg h1, dif_neg h3, dif_pos h4, dif_neg hc5, dif_pos h6, dif_neg h7, dif_neg hn8, Prog.bind_lift, Prog.bind_op, Prog.pure_eq_ret, Prog.bind_ret]
      iintro ⟨Hj, Hm, Hs, Hw, Hp⟩
      iapply (load_job c X i (jobOf k) (off18_eq k)) $$ Hj
      iintro %v %hv Hj
      iapply (load_max c _) $$ Hm
      iintro Hm
      iapply (load_sum c _) $$ Hs
      iintro Hs
      iapply (load_job c X i (jobOf k) (off18_eq k)) $$ Hj
      iintro %v' %hv' Hj
      rw [tripOut_eq k hp]
      iapply (store_job c X i (jobOf k) (off18_eq k) v hv) $$ Hj
      iintro Hj
      iapply (send_main c X i (jobOf k) hl (off20_eq i k) (off21_eq k) (off19_eq k)) $$ Hj
      iintro Hj
      iapply (finish_main c X i (jobPrev k) hq (off25_eq k h5)) $$ [Hp Hw]
      · isplitl [Hp] <;> iassumption
      iintro ⟨Hp, Hw⟩
      iapply (wp_done c)
      isplitl [Hj]; · iexact Hj
      isplitl [Hm]; · iexact Hm
      isplitl [Hs]; · iexact Hs
      isplitl [Hw]; · iexact Hw
      iexact Hp

/-- A trip of phase 2, of jobs 5, 6 and 7: it sends its job out, waits for the job five before it, and starts the job eight after it. -/
theorem trip_out_mid (hp : phase k = 2) (h5 : 5 ≤ (jobOf k).val) (h8 : (jobOf k).val < 8) :
    iprop(loaded c X i (jobOf k) ∗ maxP c (mAt X i k.val) ∗ sumP c (sAt X i k.val) ∗ owP (F := F) c ∗ going c X i (jobPrev k)
        ∗ homeIn c X i (jobNext k) ∗ homeOut (F := F) c i (jobNext k))
      ⊢ wpc c (tripP i v0 k) (fun _ => iprop(going c X i (jobOf k) ∗ maxP c (mAt X i k.val) ∗ sumP c (sAt X i k.val) ∗ owP (F := F) c
          ∗ (homeIn c X i (jobPrev k) ∗ doneOut c X i (jobPrev k)) ∗ coming c X i (jobNext k))) := by
  have h1 : ¬ k0_cond1 k = 1#1 := fun h => by have := (cond1_iff k).mp h; omega
  have h3 : ¬ k0_cond3 k = 1#1 := fun h => by have := (cond3_iff k).mp h; omega
  have h4 : k0_cond4 k = 1#1 := (cond4_iff k).mpr hp
  have h6 : k0_cond6 k = 1#1 := (cond6_iff k).mpr h5
  have hq : ¬ last (jobPrev k) := fun h => by have := (last_prev k h5).mp h; omega
  have h7 : ¬ k0_cond7 k = 1#1 := fun h => hq ((last_prev k h5).mpr ((cond7_iff k h5).mp h))
  have hc8 : k0_cond8 k = 1#1 := (cond8_iff k h5).mpr h8
  by_cases hl : last (jobOf k)
  · have hc5 : k0_cond5 k = 1#1 := (cond5_iff k).mpr ((last_jobOf k).mp hl)
    have hr : last (jobNext k) := (last_next k h8).mpr (by change (jobOf k).val % 8 = 7 at hl; omega)
    have hc9 : k0_cond9 k = 1#1 := (cond9_iff k h5 h8).mpr ((last_next k h8).mp hr)
    unfold tripP k0_t1_body
    simp only [dif_neg h1, dif_neg h3, dif_pos h4, dif_pos hc5, dif_pos h6, dif_neg h7, dif_pos hc8, dif_pos hc9, Prog.bind_lift, Prog.bind_op, Prog.pure_eq_ret, Prog.bind_ret]
    iintro ⟨Hj, Hm, Hs, Hw, Hp, Hni, Hno⟩
    iapply (load_job c X i (jobOf k) (off18_eq k)) $$ Hj
    iintro %v %hv Hj
    iapply (load_max c _) $$ Hm
    iintro Hm
    iapply (load_sum c _) $$ Hs
    iintro Hs
    iapply (load_job c X i (jobOf k) (off18_eq k)) $$ Hj
    iintro %v' %hv' Hj
    rw [tripOut_eq k hp]
    iapply (store_job c X i (jobOf k) (off18_eq k) v hv) $$ Hj
    iintro Hj
    iapply (send_both c X i (jobOf k) hl (off20_eq i k) (off21_eq k) (off19_eq k) (off23_eq i k) (off24_eq k) (off22_eq k)) $$ Hj
    iintro Hj
    iapply (finish_main c X i (jobPrev k) hq (off25_eq k h5)) $$ [Hp Hw]
    · isplitl [Hp] <;> iassumption
    iintro ⟨⟨Hpi, Hpo, Hslot⟩, Hw⟩
    iapply (begin_both c X i (jobNext k) hr (slot_next k h5 h8) (off33_eq i k h5 h8) ((off32_eq k h5 h8).trans (by rw [slot_next k h5 h8]))
      ((off31_eq k h5 h8).trans (by rw [slot_next k h5 h8])) (off36_eq i k h5 h8) ((off35_eq k h5 h8).trans (by rw [slot_next k h5 h8]))
      ((off34_eq k h5 h8).trans (by rw [slot_next k h5 h8]))) $$ [Hni Hno Hslot]
    · isplitl [Hni]; · iexact Hni
      isplitl [Hno]; · iexact Hno
      iexact Hslot
    iintro Hn
    iapply (wp_done c)
    isplitl [Hj]; · iexact Hj
    isplitl [Hm]; · iexact Hm
    isplitl [Hs]; · iexact Hs
    isplitl [Hw]; · iexact Hw
    isplitl [Hpi Hpo]
    · isplitl [Hpi] <;> iassumption
    iexact Hn
  · have hc5 : ¬ k0_cond5 k = 1#1 := fun h => hl ((last_jobOf k).mpr ((cond5_iff k).mp h))
    have hr : ¬ last (jobNext k) := fun h => hl (by have := (last_next k h8).mp h; show (jobOf k).val % 8 = 7; omega)
    have hc9 : ¬ k0_cond9 k = 1#1 := fun h => hr ((last_next k h8).mpr ((cond9_iff k h5 h8).mp h))
    unfold tripP k0_t1_body
    simp only [dif_neg h1, dif_neg h3, dif_pos h4, dif_neg hc5, dif_pos h6, dif_neg h7, dif_pos hc8, dif_neg hc9, Prog.bind_lift, Prog.bind_op, Prog.pure_eq_ret, Prog.bind_ret]
    iintro ⟨Hj, Hm, Hs, Hw, Hp, Hni, Hno⟩
    iapply (load_job c X i (jobOf k) (off18_eq k)) $$ Hj
    iintro %v %hv Hj
    iapply (load_max c _) $$ Hm
    iintro Hm
    iapply (load_sum c _) $$ Hs
    iintro Hs
    iapply (load_job c X i (jobOf k) (off18_eq k)) $$ Hj
    iintro %v' %hv' Hj
    rw [tripOut_eq k hp]
    iapply (store_job c X i (jobOf k) (off18_eq k) v hv) $$ Hj
    iintro Hj
    iapply (send_main c X i (jobOf k) hl (off20_eq i k) (off21_eq k) (off19_eq k)) $$ Hj
    iintro Hj
    iapply (finish_main c X i (jobPrev k) hq (off25_eq k h5)) $$ [Hp Hw]
    · isplitl [Hp] <;> iassumption
    iintro ⟨⟨Hpi, Hpo, Hslot⟩, Hw⟩
    iapply (begin_main c X i (jobNext k) hr (slot_next k h5 h8) (off33_eq i k h5 h8) ((off32_eq k h5 h8).trans (by rw [slot_next k h5 h8]))
      ((off31_eq k h5 h8).trans (by rw [slot_next k h5 h8]))) $$ [Hni Hno Hslot]
    · isplitl [Hni]; · iexact Hni
      isplitl [Hno]; · iexact Hno
      iexact Hslot
    iintro Hn
    iapply (wp_done c)
    isplitl [Hj]; · iexact Hj
    isplitl [Hm]; · iexact Hm
    isplitl [Hs]; · iexact Hs
    isplitl [Hw]; · iexact Hw
    isplitl [Hpi Hpo]
    · isplitl [Hpi] <;> iassumption
    iexact Hn

end Trips

end Cert.Run.Kernel

end
-- ==== Proof.Kernel.Loop.lean ====
/-
  The kernel's loop on one core: the state of every job before each trip, and the whole loop by its invariant.
-/
module

public import Idealize.ShloMosaic.Lib.Ring
public import proofs.«01_k».proof.Proof.Kernel.Trips

@[expose] public section

set_option maxRecDepth 16384
set_option maxHeartbeats 2000000

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## Jobs set apart from the others -/

section Focus
variable {M : Type _} [URA M] (Φ : Fin 16 → ℕ → sProp M)

/-- Every job in its state. -/
abbrev All (st : Fin 16 → ℕ) : sProp M := Ring.AtW (σ := fun _ : Fin 16 => ℕ) Φ st
/-- All jobs outside `S`. -/
abbrev Others (S : Finset (Fin 16)) (st : Fin 16 → ℕ) : sProp M := bigSep S fun j => Φ j (st j)

theorem others_congr (S : Finset (Fin 16)) (st st' : Fin 16 → ℕ) (h : ∀ a ∈ S, st' a = st a) : Others Φ S st = Others Φ S st' :=
  BI.bigSep_congr fun a ha => by rw [h a ha]

theorem others_erase (S : Finset (Fin 16)) (st : Fin 16 → ℕ) (n : Fin 16) (hn : n ∈ S) :
    (bigSep S fun j => Φ j (st j)) = iprop(Φ n (st n) ∗ bigSep (S.erase n) fun j => Φ j (st j)) :=
  BI.bigSep_erase (Φ := fun j => Φ j (st j)) hn

theorem swap1 (st st' : Fin 16 → ℕ) (j : Fin 16) (h : ∀ a, a ≠ j → st' a = st a) :
    All Φ st ⊢ iprop(Φ j (st j) ∗ (Φ j (st' j) -∗ All Φ st')) := by
  rw [show All Φ st = _ from Ring.AtW_focus Φ st j, show All Φ st' = _ from Ring.AtW_focus Φ st' j]
  have e : Ring.restW (σ := fun _ : Fin 16 => ℕ) Φ st j = Ring.restW (σ := fun _ : Fin 16 => ℕ) Φ st' j :=
    others_congr Φ _ st st' fun a ha => h a (Finset.ne_of_mem_erase ha)
  rw [e]
  iintro ⟨Hj, Hr⟩
  isplitl [Hj]; · iexact Hj
  iintro Hj
  isplitl [Hj] <;> iassumption

theorem swap2 (st st' : Fin 16 → ℕ) (j p : Fin 16) (hp : p ≠ j) (h : ∀ a, a ≠ j → a ≠ p → st' a = st a) :
    All Φ st ⊢ iprop(Φ j (st j) ∗ Φ p (st p) ∗ (iprop(Φ j (st' j) ∗ Φ p (st' p)) -∗ All Φ st')) := by
  rw [show All Φ st = _ from Ring.AtW_focus Φ st j, show All Φ st' = _ from Ring.AtW_focus Φ st' j,
    Ring.restW_focus Φ st j p hp, Ring.restW_focus Φ st' j p hp]
  have e := others_congr Φ ((Finset.univ.erase j).erase p) st st'
    fun a ha => h a (Finset.ne_of_mem_erase (Finset.mem_of_mem_erase ha)) (Finset.ne_of_mem_erase ha)
  unfold Others at e
  rw [e]
  iintro ⟨Hj, Hp, Hr⟩
  isplitl [Hj]; · iexact Hj
  isplitl [Hp]; · iexact Hp
  iintro ⟨Hj, Hp⟩
  isplitl [Hj]; · iexact Hj
  isplitl [Hp] <;> iassumption

theorem swap3 (st st' : Fin 16 → ℕ) (j p n : Fin 16) (hp : p ≠ j) (hn : n ≠ j) (hnp : n ≠ p) (h : ∀ a, a ≠ j → a ≠ p → a ≠ n → st' a = st a) :
    All Φ st ⊢ iprop(Φ j (st j) ∗ Φ p (st p) ∗ Φ n (st n) ∗ (iprop(Φ j (st' j) ∗ Φ p (st' p) ∗ Φ n (st' n)) -∗ All Φ st')) := by
  have hm : n ∈ (Finset.univ.erase j).erase p := Finset.mem_erase.mpr ⟨hnp, Finset.mem_erase.mpr ⟨hn, Finset.mem_univ n⟩⟩
  rw [show All Φ st = _ from Ring.AtW_focus Φ st j, show All Φ st' = _ from Ring.AtW_focus Φ st' j,
    Ring.restW_focus Φ st j p hp, Ring.restW_focus Φ st' j p hp, others_erase Φ _ st n hm, others_erase Φ _ st' n hm]
  have e := others_congr Φ (((Finset.univ.erase j).erase p).erase n) st st'
    fun a ha => h a (Finset.ne_of_mem_erase (Finset.mem_of_mem_erase (Finset.mem_of_mem_erase ha)))
      (Finset.ne_of_mem_erase (Finset.mem_of_mem_erase ha)) (Finset.ne_of_mem_erase ha)
  unfold Others at e
  rw [e]
  iintro ⟨Hj, Hp, Hn, Hr⟩
  isplitl [Hj]; · iexact Hj
  isplitl [Hp]; · iexact Hp
  isplitl [Hn]; · iexact Hn
  iintro ⟨Hj, Hp, Hn⟩
  isplitl [Hj]; · iexact Hj
  isplitl [Hp]; · iexact Hp
  isplitl [Hn] <;> iassumption

end Focus

/-! ## The jobs' states -/

/-- The state of job `j` before trip `k`. -/
def st (k : ℕ) (j : Fin 16) : ℕ :=
  if 13 ≤ j.val ∧ k ≤ 24 * ((j.val - 8) / 8) + (j.val - 8) % 8 + 16 then 0
  else if k ≤ tripIn j then 1
  else if k ≤ tripOut j then 2
  else if 11 ≤ j.val ∨ k ≤ 24 * ((j.val + 5) / 8) + (j.val + 5) % 8 + 16 then 3
  else if j.val < 3 then 5 else 4

theorem st_max : ∀ (k : Trip) (a : Fin 16), phase k = 0 → st k.val (jobOf k) = 1 ∧ st (k.val + 1) (jobOf k) = 2 ∧ (a ≠ jobOf k → st (k.val + 1) a = st k.val a) := by
  decide +kernel
theorem st_sum : ∀ (k : Trip) (a : Fin 16), phase k = 1 → st k.val (jobOf k) = 2 ∧ st (k.val + 1) a = st k.val a := by
  decide +kernel
theorem st_first : ∀ (k : Trip) (a : Fin 16), phase k = 2 → (jobOf k).val < 5 →
    st k.val (jobOf k) = 2 ∧ st (k.val + 1) (jobOf k) = 3 ∧ (a ≠ jobOf k → st (k.val + 1) a = st k.val a) := by
  decide +kernel
theorem st_late : ∀ (k : Trip) (a : Fin 16), phase k = 2 → 8 ≤ (jobOf k).val →
    st k.val (jobOf k) = 2 ∧ st (k.val + 1) (jobOf k) = 3 ∧ st k.val (jobPrev k) = 3 ∧ st (k.val + 1) (jobPrev k) = 4
      ∧ jobPrev k ≠ jobOf k ∧ (a ≠ jobOf k → a ≠ jobPrev k → st (k.val + 1) a = st k.val a) := by
  decide +kernel
theorem st_mid : ∀ k : Trip, phase k = 2 → 5 ≤ (jobOf k).val → (jobOf k).val < 8 →
    st k.val (jobOf k) = 2 ∧ st (k.val + 1) (jobOf k) = 3 ∧ st k.val (jobPrev k) = 3 ∧ st (k.val + 1) (jobPrev k) = 5
      ∧ st k.val (jobNext k) = 0 ∧ st (k.val + 1) (jobNext k) = 1 := by
  decide +kernel
theorem mid_ne : ∀ k : Trip, phase k = 2 → 5 ≤ (jobOf k).val → (jobOf k).val < 8 →
    jobPrev k ≠ jobOf k ∧ jobNext k ≠ jobOf k ∧ jobNext k ≠ jobPrev k := by
  decide +kernel
theorem st_mid_rest : ∀ (k : Trip) (a : Fin 16), phase k = 2 → (5 ≤ (jobOf k).val ∧ (jobOf k).val < 8) →
    ¬ (a = jobOf k ∨ a = jobPrev k ∨ a = jobNext k) → st (k.val + 1) a = st k.val a := by
  decide +kernel
theorem phase_lt (k : Trip) : phase k < 3 := by unfold phase; omega

/-! ## The loop -/

section Loop
variable (c : Dev nD) (X : Arr F) (i : Coord) (v0 : BitVec 32) (k : Trip)

/-- A program that meets `Q` from `P` carries a resource along. -/
theorem wpc_frame {P R : sProp (MT nD τ sig Unit (Elt F) ℕ (UC sig nD τ) ℕ)} {α : Type} {p : Prog (TpuEff nD τ sig (Elt F) Λ₀ .tc) α}
    {Q Q' : α → sProp (MT nD τ sig Unit (Elt F) ℕ (UC sig nD τ) ℕ)} (h : P ⊢ wpc c p Q) (h' : ∀ a, iprop(Q a ∗ R) ⊢ Q' a) : iprop(P ∗ R) ⊢ wpc c p Q' := by
  iintro ⟨HP, HR⟩
  iapply (wp_wand_r Idealize.ShloMosaic.frame (wpE (defs₀ (F := F)) 𝒱₀ (c : Thread nD τ) none) Set.univ)
  isplitl [HP]
  · iapply h; iexact HP
  · iintro %a HQ
    iapply (h' a)
    isplitl [HQ] <;> iassumption

theorem JR_one (j : Fin 16) : JR c X i j 1 = coming c X i j := rfl
theorem JR_two (j : Fin 16) : JR c X i j 2 = loaded c X i j := rfl
theorem JR_three (j : Fin 16) : JR c X i j 3 = going c X i j := rfl
theorem JR_zero (j : Fin 16) : JR c X i j 0 = iprop(homeIn c X i j ∗ homeOut (F := F) c i j) := rfl
theorem JR_four (j : Fin 16) : JR c X i j 4 = iprop(homeIn c X i j ∗ doneOut c X i j ∗ idle (F := F) c (slot j)) := rfl
theorem JR_five (j : Fin 16) : JR c X i j 5 = iprop(homeIn c X i j ∗ doneOut c X i j) := rfl
theorem JR_six (j : Fin 16) : JR c X i j 6 = iprop(homeIn c X i j ∗ homeOut (F := F) c i j ∗ idle (F := F) c (slot j)) := rfl

/-- What a core holds before trip `k`: its jobs in their states, the running maximum and the running sum (at anything
    before their first trip). -/
def Inv (k : ℕ) : sProp 𝕄 :=
  iprop(All (JR c X i) (st k) ∗ (∃ f, ⌜0 < k → f = mAt X i k⌝ ∗ maxP c f) ∗ (∃ f, ⌜8 < k → f = sAt X i k⌝ ∗ sumP c f) ∗ owP (F := F) c)

theorem inv_max (hp : phase k = 0) : Inv c X i k.val ⊢ wpc c (tripP i v0 k) (fun _ => Inv c X i (k.val + 1)) := by
  have hk := trip_lt k
  have e := st_max k
  unfold Inv
  iintro ⟨HA, ⟨%f, %hf, Hm⟩, ⟨%g, %hg, Hs⟩, Hw⟩
  ihave HA := (swap1 (JR c X i) (st k.val) (st (k.val + 1)) (jobOf k) (fun a ha => (e a hp).2.2 ha)) $$ HA
  rw [(e (jobOf k) hp).1, (e (jobOf k) hp).2.1, JR_one, JR_two]
  icases HA with ⟨Hj, HA⟩
  have em : k0_pay1 k (slotOf (slot (jobOf k)) (jobPart X i (jobOf k))) f = mAt X i (k.val + 1) := by
    rw [mAt_max X i k hp]
    by_cases h0 : k.val % 8 = 0
    · exact pay1_first k h0 _ _ _
    · rw [hf (by omega)]
  iapply (wpc_frame c (trip_max c X i v0 k hp f) (R := iprop((loaded c X i (jobOf k) -∗ All (JR c X i) (st (k.val + 1))) ∗ sumP c g)) ?_)
  · rw [em]
    iintro %_ ⟨⟨Hj, Hm, Hw⟩, HA, Hs⟩
    isplitl [Hj HA]
    · iapply HA; iexact Hj
    isplitl [Hm]
    · iexists _; isplitr; · ipureintro; exact fun _ => rfl
      iexact Hm
    isplitl [Hs]
    · iexists g; isplitr
      · ipureintro; intro h
        have hp' : phase k ≠ 1 := by omega
        rw [sAt_keep X i k hp']
        refine hg ?_
        unfold phase at hp; omega
      iexact Hs
    iexact Hw
  · isplitl [Hj Hm Hw]
    · isplitl [Hj]; · iexact Hj
      isplitl [Hm] <;> iassumption
    · isplitl [HA] <;> iassumption

theorem inv_sum (hp : phase k = 1) : Inv c X i k.val ⊢ wpc c (tripP i v0 k) (fun _ => Inv c X i (k.val + 1)) := by
  have hk := trip_lt k
  have e := st_sum k
  have h8 : 8 ≤ k.val := by unfold phase at hp; omega
  unfold Inv
  iintro ⟨HA, ⟨%f, %hf, Hm⟩, ⟨%g, %hg, Hs⟩, Hw⟩
  obtain rfl := hf (by omega)
  ihave HA := (swap1 (JR c X i) (st k.val) (st (k.val + 1)) (jobOf k) (fun a ha => (e a hp).2)) $$ HA
  rw [(e (jobOf k) hp).2, (e (jobOf k) hp).1, JR_two]
  icases HA with ⟨Hj, HA⟩
  have es : k0_pay2 k (slotOf (slot (jobOf k)) (jobPart X i (jobOf k))) (mAt X i k.val) g = sAt X i (k.val + 1) := by
    rw [sAt_sum X i k hp]
    by_cases h0 : k.val % 8 = 0
    · exact pay2_first k h0 _ _ _ _
    · rw [hg (by omega)]
  iapply (wpc_frame c (trip_sum c X i v0 k hp (mAt X i k.val) g) (R := iprop((loaded c X i (jobOf k) -∗ All (JR c X i) (st (k.val + 1))) ∗ owP (F := F) c)) ?_)
  · rw [es]
    iintro %_ ⟨⟨Hj, Hm, Hs⟩, HA, Hw⟩
    isplitl [Hj HA]
    · iapply HA; iexact Hj
    isplitl [Hm]
    · iexists _; isplitr
      · ipureintro; exact fun _ => (mAt_keep X i k (by omega)).symm
      iexact Hm
    isplitl [Hs]
    · iexists _; isplitr; · ipureintro; exact fun _ => rfl
      iexact Hs
    iexact Hw
  · isplitl [Hj Hm Hs]
    · isplitl [Hj]; · iexact Hj
      isplitl [Hm] <;> iassumption
    · isplitl [HA] <;> iassumption

/-- What a trip of phase 2 leaves of the two accumulators. -/
theorem inv_out_close (hp : phase k = 2) (P : sProp (MT nD τ sig Unit (Elt F) ℕ (UC sig nD τ) ℕ)) (h : P ⊢ All (JR c X i) (st (k.val + 1))) :
    iprop(P ∗ maxP c (mAt X i k.val) ∗ sumP c (sAt X i k.val) ∗ owP (F := F) c) ⊢ Inv c X i (k.val + 1) := by
  unfold Inv
  iintro ⟨HP, Hm, Hs, Hw⟩
  isplitl [HP]
  · iapply h; iexact HP
  isplitl [Hm]
  · iexists _; isplitr
    · ipureintro; exact fun _ => (mAt_keep X i k (by omega)).symm
    iexact Hm
  isplitl [Hs]
  · iexists _; isplitr
    · ipureintro; exact fun _ => (sAt_keep X i k (by omega)).symm
    iexact Hs
  iexact Hw

theorem inv_out (hp : phase k = 2) : Inv c X i k.val ⊢ wpc c (tripP i v0 k) (fun _ => Inv c X i (k.val + 1)) := by
  have hk := trip_lt k
  have h8 : 16 ≤ k.val := by unfold phase at hp; omega
  refine .trans ?_ (show iprop(All (JR c X i) (st k.val) ∗ maxP c (mAt X i k.val) ∗ sumP c (sAt X i k.val) ∗ owP (F := F) c)
    ⊢ wpc c (tripP i v0 k) (fun _ => Inv c X i (k.val + 1)) from ?_)
  · unfold Inv
    iintro ⟨HA, ⟨%f, %hf, Hm⟩, ⟨%g, %hg, Hs⟩, Hw⟩
    obtain rfl := hf (by omega)
    obtain rfl := hg (by omega)
    isplitl [HA]; · iexact HA
    isplitl [Hm]; · iexact Hm
    isplitl [Hs] <;> iassumption
  rcases Nat.lt_or_ge (jobOf k).val 5 with h5 | h5
  · have e := st_first k
    have s := swap1 (JR c X i) (st k.val) (st (k.val + 1)) (jobOf k) (fun a ha => (e a hp h5).2.2 ha)
    rw [(e (jobOf k) hp h5).1, (e (jobOf k) hp h5).2.1, JR_two, JR_three] at s
    iintro ⟨HA, Hm, Hs, Hw⟩
    ihave HA := s $$ HA
    icases HA with ⟨Hj, HA⟩
    iapply (wpc_frame c (trip_out_first c X i v0 k hp h5) (Q' := fun _ => Inv c X i (k.val + 1)) (R := iprop(going c X i (jobOf k) -∗ All (JR c X i) (st (k.val + 1)))) ?_)
    · iintro %_ ⟨⟨Hj, Hm, Hs, Hw⟩, HA⟩
      iapply (inv_out_close c X i k hp iprop(going c X i (jobOf k) ∗ (going c X i (jobOf k) -∗ All (JR c X i) (st (k.val + 1)))) ?_)
      · iintro ⟨Hj, HA⟩; iapply HA; iexact Hj
      isplitl [Hj HA]; · isplitl [Hj] <;> iassumption
      isplitl [Hm]; · iexact Hm
      isplitl [Hs] <;> iassumption
    · isplitr [HA]
      · isplitl [Hj]; · iexact Hj
        isplitl [Hm]; · iexact Hm
        isplitl [Hs] <;> iassumption
      · iexact HA
  rcases Nat.lt_or_ge (jobOf k).val 8 with h8' | h8'
  · obtain ⟨e1, e2, e3, e4, e5, e6⟩ := st_mid k hp h5 h8'
    obtain ⟨n1, n2, n3⟩ := mid_ne k hp h5 h8'
    have s := swap3 (JR c X i) (st k.val) (st (k.val + 1)) (jobOf k) (jobPrev k) (jobNext k) n1 n2 n3 (fun a ha hb hc => st_mid_rest k a hp ⟨h5, h8'⟩ (by rintro (h | h | h); exacts [ha h, hb h, hc h]))
    rw [e1, e2, e3, e4, e5, e6, JR_two, JR_three, JR_three, JR_five, JR_zero, JR_one] at s
    iintro ⟨HA, Hm, Hs, Hw⟩
    ihave HA := s $$ HA
    icases HA with ⟨Hj, Hp, Hn, HA⟩
    iapply (wpc_frame c (trip_out_mid c X i v0 k hp h5 h8') (Q' := fun _ => Inv c X i (k.val + 1))
      (R := iprop(iprop(going c X i (jobOf k) ∗ iprop(homeIn c X i (jobPrev k) ∗ doneOut c X i (jobPrev k)) ∗ coming c X i (jobNext k)) -∗ All (JR c X i) (st (k.val + 1)))) ?_)
    · iintro %_ ⟨⟨Hj, Hm, Hs, Hw, Hp, Hn⟩, HA⟩
      iapply (inv_out_close c X i k hp iprop(iprop(going c X i (jobOf k) ∗ iprop(homeIn c X i (jobPrev k) ∗ doneOut c X i (jobPrev k)) ∗ coming c X i (jobNext k))
        ∗ (iprop(going c X i (jobOf k) ∗ iprop(homeIn c X i (jobPrev k) ∗ doneOut c X i (jobPrev k)) ∗ coming c X i (jobNext k)) -∗ All (JR c X i) (st (k.val + 1)))) ?_)
      · iintro ⟨Hj, HA⟩; iapply HA; iexact Hj
      isplitl [Hj Hp Hn HA]
      · isplitr [HA]
        · isplitl [Hj]; · iexact Hj
          isplitl [Hp]; · iexact Hp
          iexact Hn
        · iexact HA
      isplitl [Hm]; · iexact Hm
      isplitl [Hs] <;> iassumption
    · isplitr [HA]
      · isplitl [Hj]; · iexact Hj
        isplitl [Hm]; · iexact Hm
        isplitl [Hs]; · iexact Hs
        isplitl [Hw]; · iexact Hw
        isplitl [Hp]; · iexact Hp
        iexact Hn
      · iexact HA
  · have e := st_late k
    obtain ⟨e1, e2, e3, e4, n1, -⟩ := e (jobOf k) hp h8'
    have s := swap2 (JR c X i) (st k.val) (st (k.val + 1)) (jobOf k) (jobPrev k) n1 (fun a ha hb => (e a hp h8').2.2.2.2.2 ha hb)
    rw [e1, e2, e3, e4, JR_two, JR_three, JR_three, JR_four] at s
    iintro ⟨HA, Hm, Hs, Hw⟩
    ihave HA := s $$ HA
    icases HA with ⟨Hj, Hp, HA⟩
    iapply (wpc_frame c (trip_out_late c X i v0 k hp h8') (Q' := fun _ => Inv c X i (k.val + 1))
      (R := iprop(iprop(going c X i (jobOf k) ∗ homeIn c X i (jobPrev k) ∗ doneOut c X i (jobPrev k) ∗ idle (F := F) c (slot (jobPrev k))) -∗ All (JR c X i) (st (k.val + 1)))) ?_)
    · iintro %_ ⟨⟨Hj, Hm, Hs, Hw, Hp⟩, HA⟩
      iapply (inv_out_close c X i k hp iprop(iprop(going c X i (jobOf k) ∗ homeIn c X i (jobPrev k) ∗ doneOut c X i (jobPrev k) ∗ idle (F := F) c (slot (jobPrev k)))
        ∗ (iprop(going c X i (jobOf k) ∗ homeIn c X i (jobPrev k) ∗ doneOut c X i (jobPrev k) ∗ idle (F := F) c (slot (jobPrev k))) -∗ All (JR c X i) (st (k.val + 1)))) ?_)
      · iintro ⟨Hj, HA⟩; iapply HA; iexact Hj
      isplitl [Hj Hp HA]
      · isplitr [HA]
        · isplitl [Hj]; · iexact Hj
          iexact Hp
        · iexact HA
      isplitl [Hm]; · iexact Hm
      isplitl [Hs] <;> iassumption
    · isplitr [HA]
      · isplitl [Hj]; · iexact Hj
        isplitl [Hm]; · iexact Hm
        isplitl [Hs]; · iexact Hs
        isplitl [Hw]; · iexact Hw
        iexact Hp
      · iexact HA

/-- One trip takes the invariant to the next trip's. -/
theorem inv_trip : Inv c X i k.val ⊢ wpc c (tripP i v0 k) (fun _ => Inv c X i (k.val + 1)) := by
  have h := phase_lt k
  rcases (by omega : phase k = 0 ∨ phase k = 1 ∨ phase k = 2) with hp | hp | hp
  · exact inv_max c X i v0 k hp
  · exact inv_sum c X i v0 k hp
  · exact inv_out c X i v0 k hp

/-- The loop: from the invariant before the first trip to the invariant after the last. -/
theorem run_loop {α : Type} {Q : α → sProp (MT nD τ sig Unit (Elt F) ℕ (UC sig nD τ) ℕ)} {kk : Unit → Prog (TpuEff nD τ sig (Elt F) Λ₀ .tc) α} :
    Inv c X i 0 ⊢ iprop((Inv c X i 48 -∗ wpc c (kk ()) Q)
      -∗ wpc c ((Scf.Loop.for k0_t1_loop k0_t1_ok () (k0_t1_body (F := F) i xM (Memref.isWhole_whole _) yM (Memref.isWhole_whole _) ringM (Memref.isWhole_whole _)
          maxM (Memref.isWhole_whole _) sumM (Memref.isWhole_whole _) cc0_scratch3 cc0_scratch4 cc0_scratch5 cc0_scratch6 v0)).bind kk) Q) := by
  iintro HI HK
  have hstep : ∀ (k : Trip) (acc : Unit), Inv c X i k.val ⊢ wpc c (k0_t1_body (F := F) i xM (Memref.isWhole_whole _) yM (Memref.isWhole_whole _) ringM (Memref.isWhole_whole _)
          maxM (Memref.isWhole_whole _) sumM (Memref.isWhole_whole _) cc0_scratch3 cc0_scratch4 cc0_scratch5 cc0_scratch6 v0 k acc) (fun _ => Inv c X i (k.val + 1)) :=
    fun k acc => by cases acc; exact inv_trip c X i v0 k
  iapply (Scf.wp_for_bind Idealize.ShloMosaic.frame (wpE (defs₀ (F := F)) 𝒱₀ (c : Thread nD τ) none) Set.univ k0_t1_loop.lb k0_t1_loop.ub k0_t1_loop.st k0_t1_ok ()
    _ (fun n _ => Inv c X i n) hstep) $$ HI
  iintro %_ HI
  iapply HK
  iexact HI

end Loop

end Cert.Run.Kernel

end
-- ==== Proof.Kernel.Region.lean ====
/-
  A core's rows of the two arrays, job by job, and the ring, slot by slot: taken apart before the body and put together after it.
-/
module

public import Idealize.ShloMosaic.Lib.Ring
public import Idealize.ShloMosaic.Lib.SparseCore.Launch
public import proofs.«01_k».proof.Proof.Kernel.Loop

@[expose] public section

set_option maxRecDepth 16384
set_option maxHeartbeats 1000000

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The jobs' states when the first `n` jobs have been started, and when the last jobs up to `n` have been waited for. -/
def pst (n : ℕ) (j : Fin 16) : ℕ := if j.val < n then 1 else if j.val < 13 then 6 else 0
def est (n : ℕ) (j : Fin 16) : ℕ := if j.val < 3 then 5 else if j.val < n then 4 else 3

/-! ## The rows of a core, job by job -/

/-- The array's elements of job `j` of core `i`: its block, and its tail if it has one. -/
def hH (i : Coord) (j : Fin 16) : Finset S32x1000000.Idx := mH i j ∪ (if last j then tH i j else ∅)
/-- The rows of core `i`. -/
def rows (i : Coord) : Finset S32x1000000.Idx := Finset.univ.filter fun z => (z 0).val / 16 = (i 0).val

theorem mem_hH (i : Coord) (j : Fin 16) (z : S32x1000000.Idx) :
    z ∈ hH i j ↔ (z 0).val / 8 = (i 0).val * 2 + j.val / 8 ∧ min ((z 1).val / 124928) 7 = j.val % 8 := by
  have hz : (z 1).val < 1000000 := (z 1).isLt
  unfold hH
  by_cases h : last j
  · rw [if_pos h, Finset.mem_union, mem_mH, mem_tH]; unfold rowB colB; change j.val % 8 = 7 at h; omega
  · rw [if_neg h, Finset.union_empty, mem_mH]; unfold rowB colB; change ¬ j.val % 8 = 7 at h; omega
theorem disj_hH (i : Coord) : ∀ j j' : Fin 16, j ≠ j' → Disjoint (hH i j) (hH i j') := by
  intro j j' h
  rw [Finset.disjoint_left]
  intro z hz hz'
  rw [mem_hH] at hz hz'
  exact h (Fin.ext (by omega))
theorem mem_rows (i : Coord) (z : S32x1000000.Idx) : z ∈ rows i ↔ (z 0).val / 16 = (i 0).val := by
  unfold rows
  rw [Finset.mem_filter]
  exact ⟨fun h => h.2, fun h => ⟨Finset.mem_univ z, h⟩⟩
theorem rows_jobs (i : Coord) (z : S32x1000000.Idx) : z ∈ rows i ↔ ∃ j, z ∈ hH i j := by
  rw [mem_rows]
  constructor
  · intro h
    refine ⟨⟨(z 0).val / 8 % 2 * 8 + min ((z 1).val / 124928) 7, by omega⟩, ?_⟩
    rw [mem_hH]
    show (z 0).val / 8 = (i 0).val * 2 + ((z 0).val / 8 % 2 * 8 + min ((z 1).val / 124928) 7) / 8
      ∧ min ((z 1).val / 124928) 7 = ((z 0).val / 8 % 2 * 8 + min ((z 1).val / 124928) 7) % 8
    omega
  · rintro ⟨j, h⟩
    rw [mem_hH] at h; have := j.isLt; omega
theorem disj_mtH (i : Coord) (j : Fin 16) (h : last j) : Disjoint (mH i j) (tH i j) := by
  rw [Finset.disjoint_left]; intro z hz hz'
  rw [mem_mH] at hz; rw [mem_tH] at hz'; unfold colB at hz; change j.val % 8 = 7 at h; omega

section Parts
variable {ℓ : Loc nD τ sig} {B : Type} [Fintype B] [DecidableEq B] (I : B → Finset (Idx ℓ)) (S : Finset (Idx ℓ))

/-- Elements held at one value are held part by part, -/
theorem parts_eq (hd : ∀ b b', b ≠ b' → Disjoint (I b) (I b')) (hS : ∀ z, z ∈ S ↔ ∃ b, z ∈ I b) (f : Buf (Elt F) ℓ) :
    (ℓ ↦[S]{fullShare} f : sProp 𝕄) = bigSep Finset.univ fun b => ℓ ↦[I b]{fullShare} f :=
  Ring.pointsTo_sub_blocks I hd S (by ext z; rw [Finset.mem_biUnion, hS]; exact ⟨fun ⟨b, _, h⟩ => ⟨b, h⟩, fun ⟨b, h⟩ => ⟨b, Finset.mem_univ b, h⟩⟩) f
/-- and parts at any values join. -/
theorem parts_any (hd : ∀ b b', b ≠ b' → Disjoint (I b) (I b')) (hS : ∀ z, z ∈ S ↔ ∃ b, z ∈ I b) (f₀ : Buf (Elt F) ℓ) :
    bigSep Finset.univ (fun b => iprop(∃ f, ℓ ↦[I b]{fullShare} f)) ⊢ (iprop(∃ g, ℓ ↦[S]{fullShare} g) : sProp 𝕄) :=
  Ring.pointsTo_sub_blocks_join_exists I hd S (by ext z; rw [Finset.mem_biUnion, hS]; exact ⟨fun ⟨b, _, h⟩ => ⟨b, h⟩, fun ⟨b, h⟩ => ⟨b, Finset.mem_univ b, h⟩⟩) f₀
end Parts

/-- Two families over one index, taken apart -/
theorem all_unzip {B : Type} (s : Finset B) (Φ Ψ : B → sProp (MT nD τ sig Unit (Elt F) ℕ (UC sig nD τ) ℕ)) :
    bigSep s (fun b => iprop(Φ b ∗ Ψ b)) ⊢ iprop(bigSep s Φ ∗ bigSep s Ψ) := by
  rw [bigSep_sep' s Φ Ψ]
/-- and put together. -/
theorem all_zip {B : Type} (s : Finset B) (Φ Ψ : B → sProp (MT nD τ sig Unit (Elt F) ℕ (UC sig nD τ) ℕ)) :
    iprop(bigSep s Φ ∗ bigSep s Ψ) ⊢ bigSep s (fun b => iprop(Φ b ∗ Ψ b)) := by
  rw [bigSep_sep' s Φ Ψ]

section Pieces
variable (c : Dev nD) (X : Arr F) (i : Coord)

theorem in_job (j : Fin 16) (f : Arr F) :
    inP c (hH i j) f ⊣⊢ iprop(inP c (mH i j) f ∗ (if last j then inP c (tH i j) f else emp)) := by
  unfold hH
  by_cases h : last j
  · rw [if_pos h, if_pos h]; exact pointsTo_union (disj_mtH i j h)
  · rw [if_neg h, if_neg h, Finset.union_empty]; exact ⟨BI.sep_emp.2, BI.sep_emp.1⟩
theorem out_job (j : Fin 16) (f : Arr F) :
    outP c (hH i j) f ⊣⊢ iprop(outP c (mH i j) f ∗ (if last j then outP c (tH i j) f else emp)) := by
  unfold hH
  by_cases h : last j
  · rw [if_pos h, if_pos h]; exact pointsTo_union (disj_mtH i j h)
  · rw [if_neg h, if_neg h, Finset.union_empty]; exact ⟨BI.sep_emp.2, BI.sep_emp.1⟩

theorem in_open : inP c (rows i) X ⊢ bigSep Finset.univ (homeIn c X i) := by
  have e : inP c (rows i) X = bigSep Finset.univ (fun j => inP c (hH i j) X) := parts_eq (ℓ := xM.view.loc (c : Thread nD τ)) (hH i) (rows i) (disj_hH i) (rows_jobs i) X
  rw [e]
  exact BI.bigSep_mono fun j _ => (in_job c i j X).1
theorem in_close : bigSep Finset.univ (homeIn c X i) ⊢ inP c (rows i) X := by
  have e : inP c (rows i) X = bigSep Finset.univ (fun j => inP c (hH i j) X) := parts_eq (ℓ := xM.view.loc (c : Thread nD τ)) (hH i) (rows i) (disj_hH i) (rows_jobs i) X
  rw [e]
  exact BI.bigSep_mono fun j _ => (in_job c i j X).2
theorem out_any (j : Fin 16) (f : Arr F) : outP c (hH i j) f ⊢ homeOut (F := F) c i j := by
  refine (out_job c i j f).1.trans ?_
  unfold homeOut
  by_cases h : last j
  · rw [if_pos h, if_pos h]
    iintro ⟨H1, H2⟩
    isplitl [H1]
    · iexists f; iexact H1
    · iexists f; iexact H2
  · rw [if_neg h, if_neg h]
    iintro ⟨H1, H2⟩
    isplitl [H1]
    · iexists f; iexact H1
    · iexact H2
theorem out_open (f : Arr F) : outP c (rows i) f ⊢ bigSep Finset.univ (homeOut (F := F) c i) := by
  have e : outP c (rows i) f = bigSep Finset.univ (fun j => outP c (hH i j) f) := parts_eq (ℓ := yM.view.loc (c : Thread nD τ)) (hH i) (rows i) (disj_hH i) (rows_jobs i) f
  rw [e]
  exact BI.bigSep_mono fun j _ => out_any c i j f
theorem out_close : bigSep Finset.univ (doneOut c X i) ⊢ outP c (rows i) (outArr X) := by
  have e : outP c (rows i) (outArr X) = bigSep Finset.univ (fun j => outP c (hH i j) (outArr X)) := parts_eq (ℓ := yM.view.loc (c : Thread nD τ)) (hH i) (rows i) (disj_hH i) (rows_jobs i) (outArr X)
  rw [e]
  exact BI.bigSep_mono fun j _ => (out_job c i j (outArr X)).2

/-! ## The ring, slot by slot -/

theorem disj_wS : ∀ s s' : Fin 13, s ≠ s' → Disjoint (wS s) (wS s') := by
  intro s s' h
  rw [Finset.disjoint_left]
  intro y hy hy'
  rw [mem_wS] at hy hy'
  exact h (Fin.ext (by omega))
theorem cover_wS (y : S13x8x125504.Idx) : y ∈ Finset.univ ↔ ∃ s, y ∈ wS s :=
  ⟨fun _ => ⟨y 0, (mem_wS _ y).mpr rfl⟩, fun _ => Finset.mem_univ y⟩

/-- The four semaphores of slot `s` at zero. -/
def sems (s : Fin 13) : sProp 𝕄 :=
  iprop(semP (F := F) c cc0_scratch3 s ∗ semP (F := F) c cc0_scratch4 s ∗ semP (F := F) c cc0_scratch5 s ∗ semP (F := F) c cc0_scratch6 s)

theorem slot_open (s : Fin 13) (f : RingV F) : iprop(ringP c (wS s) f ∗ sems (F := F) c s) ⊢ idle (F := F) c s := by
  unfold sems idle
  iintro ⟨H, Hs⟩
  ihave H := (slot_split c s f) $$ H
  icases H with ⟨H1, H2⟩
  isplitl [H1]
  · iexists f; iexact H1
  isplitl [H2]
  · iexists f; iexact H2
  iexact Hs
theorem slot_close (s : Fin 13) : idle (F := F) c s ⊢ iprop((∃ f, ringP (F := F) c (wS s) f) ∗ sems (F := F) c s) := by
  unfold idle sems
  iintro ⟨⟨%f, H1⟩, ⟨%g, H2⟩, Hs⟩
  isplitl [H1 H2]
  · iexists _
    iapply (slot_join c s f g)
    isplitl [H1]
    · iexact H1
    · iexact H2
  iexact Hs
theorem ring_open (f : RingV F) : iprop(ringP c Finset.univ f ∗ bigSep Finset.univ (sems (F := F) c)) ⊢ bigSep Finset.univ (idle (F := F) c) := by
  have e : ringP c Finset.univ f = bigSep Finset.univ (fun s => ringP c (wS s) f) := parts_eq (ℓ := ringM.view.loc (c : Thread nD τ)) wS Finset.univ disj_wS cover_wS f
  rw [e]
  exact (all_zip _ _ _).trans (BI.bigSep_mono fun s _ => slot_open c s f)
theorem ring_close (f₀ : RingV F) : bigSep Finset.univ (idle (F := F) c) ⊢ iprop((∃ f, ringP c Finset.univ f) ∗ bigSep Finset.univ (sems (F := F) c)) := by
  have h : bigSep Finset.univ (idle (F := F) c)
      ⊢ iprop(bigSep Finset.univ (fun s => iprop(∃ f, ringP (F := F) c (wS s) f)) ∗ bigSep Finset.univ (sems (F := F) c)) :=
    (BI.bigSep_mono fun s _ => slot_close c s).trans (all_unzip _ _ _)
  refine h.trans ?_
  iintro ⟨H, Hs⟩
  isplitl [H]
  · iapply (parts_any (ℓ := ringM.view.loc (c : Thread nD τ)) wS Finset.univ disj_wS cover_wS f₀) $$ H
  iexact Hs

/-! ## The jobs' states at the body's two ends -/

/-- The jobs that have a slot, when each slot has one job `o s`. -/
theorem slots_of (p : Fin 16 → Prop) [DecidablePred p] (o : Fin 13 → Fin 16) (ho : ∀ s, slot (o s) = s) (hp : ∀ j, p j ↔ ∃ s, o s = j)
    (Ψ : Fin 13 → sProp (MT nD τ sig Unit (Elt F) ℕ (UC sig nD τ) ℕ)) :
    bigSep Finset.univ (fun j => if p j then Ψ (slot j) else (Idealize.SL.BI.emp : sProp (MT nD τ sig Unit (Elt F) ℕ (UC sig nD τ) ℕ))) = bigSep Finset.univ Ψ := by
  have e : (Finset.univ : Finset (Fin 13)).image o = Finset.univ.filter p := by
    ext j
    rw [Finset.mem_image, Finset.mem_filter, hp]
    constructor
    · rintro ⟨s, -, h⟩; exact ⟨Finset.mem_univ _, s, h⟩
    · rintro ⟨-, s, h⟩; exact ⟨s, Finset.mem_univ _, h⟩
  have hi : Set.InjOn o ((Finset.univ : Finset (Fin 13)) : Set (Fin 13)) := fun a _ b _ h => by rw [← ho a, ← ho b, h]
  rw [← BI.bigSep_filter Finset.univ p (fun j => Ψ (slot j)), ← e, bigSep_image_of_injOn hi]
  exact BI.bigSep_congr fun s _ => by rw [ho]

/-- What job `j` has of a slot at the body's start, -/
def slotStart (j : Fin 16) : sProp 𝕄 := if j.val < 13 then idle (F := F) c (slot j) else Idealize.SL.BI.emp
/-- and at its end. -/
def slotEnd (j : Fin 16) : sProp 𝕄 := if ¬ j.val < 3 then idle (F := F) c (slot j) else Idealize.SL.BI.emp

theorem slots_start : bigSep Finset.univ (slotStart (F := F) c) = bigSep Finset.univ (idle (F := F) c) :=
  slots_of (fun j : Fin 16 => j.val < 13) (fun s => ⟨s.val, by omega⟩) (by decide) (by decide) (idle (F := F) c)
theorem slots_end : bigSep Finset.univ (slotEnd (F := F) c) = bigSep Finset.univ (idle (F := F) c) :=
  slots_of (fun j : Fin 16 => ¬ j.val < 3) (fun s => ⟨if s.val < 3 then s.val + 13 else s.val, by split <;> omega⟩) (by decide) (by decide)
    (idle (F := F) c)

theorem job_start (j : Fin 16) : iprop(homeIn c X i j ∗ homeOut (F := F) c i j ∗ slotStart (F := F) c j) ⊢ JR c X i j (pst 0 j) := by
  unfold pst slotStart
  rw [if_neg (Nat.not_lt_zero _)]
  by_cases h : j.val < 13
  · rw [if_pos h, if_pos h, JR_six]
  · rw [if_neg h, if_neg h, JR_zero]
    iintro ⟨H1, H2, -⟩
    isplitl [H1]
    · iexact H1
    · iexact H2
theorem job_end (j : Fin 16) : JR c X i j (est 16 j) ⊢ iprop(homeIn c X i j ∗ doneOut c X i j ∗ slotEnd (F := F) c j) := by
  unfold est slotEnd
  by_cases h : j.val < 3
  · rw [if_pos h, if_neg (not_not.mpr h), JR_five]
    iintro ⟨H1, H2⟩
    isplitl [H1]; · iexact H1
    isplitl [H2]; · iexact H2
    iempintro
  · rw [if_neg h, if_pos h, if_pos j.isLt, JR_four]

theorem all_start :
    iprop(bigSep Finset.univ (homeIn c X i) ∗ bigSep Finset.univ (homeOut (F := F) c i) ∗ bigSep Finset.univ (idle (F := F) c)) ⊢ All (JR c X i) (pst 0) := by
  rw [← slots_start]
  have h : iprop(bigSep Finset.univ (homeIn c X i) ∗ bigSep Finset.univ (homeOut (F := F) c i) ∗ bigSep Finset.univ (slotStart (F := F) c))
      ⊢ bigSep Finset.univ (fun j : Fin 16 => iprop(homeIn c X i j ∗ homeOut (F := F) c i j ∗ slotStart (F := F) c j)) := by
    iintro ⟨H1, H2⟩
    iapply (all_zip _ _ _)
    isplitl [H1]; · iexact H1
    iapply (all_zip _ _ _)
    iexact H2
  exact h.trans (BI.bigSep_mono fun j _ => job_start c X i j)
theorem all_end :
    All (JR c X i) (est 16) ⊢ iprop(bigSep Finset.univ (homeIn c X i) ∗ bigSep Finset.univ (doneOut c X i) ∗ bigSep Finset.univ (idle (F := F) c)) := by
  rw [← slots_end]
  have h : All (JR c X i) (est 16) ⊢ bigSep Finset.univ (fun j : Fin 16 => iprop(homeIn c X i j ∗ doneOut c X i j ∗ slotEnd (F := F) c j)) :=
    BI.bigSep_mono fun j _ => job_end c X i j
  refine (h.trans (all_unzip _ _ _)).trans ?_
  iintro ⟨H1, H2⟩
  isplitl [H1]; · iexact H1
  iapply (all_unzip _ _ _)
  iexact H2

end Pieces

end Cert.Run.Kernel

end
-- ==== Proof.Kernel.Body.lean ====
/-
  The kernel's body on one core: the first thirteen jobs started, the loop, the last jobs waited for.
-/
module

public import proofs.«01_k».proof.Proof.Kernel.Region

@[expose] public section

set_option maxRecDepth 16384
set_option maxHeartbeats 1000000

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

section Ends
variable (c : Dev nD) (X : Arr F) (i : Coord) (j : Fin 16)
variable {α : Type} {Q : α → sProp (MT nD τ sig Unit (Elt F) ℕ (UC sig nD τ) ℕ)} {k : PUnit → Prog (TpuEff nD τ sig (Elt F) Λ₀ .tc) α}

theorem pst_move : ∀ (j a : Fin 16), j.val < 13 → pst j.val j = 6 ∧ pst (j.val + 1) j = 1 ∧ (a ≠ j → pst (j.val + 1) a = pst j.val a) := by decide +kernel
theorem est_move : ∀ (j a : Fin 16), 11 ≤ j.val → est j.val j = 3 ∧ est (j.val + 1) j = 4 ∧ (a ≠ j → est (j.val + 1) a = est j.val a) := by decide +kernel
theorem pst_last : pst 13 = st 0 := by funext j; revert j; decide +kernel
theorem est_first : st 48 = est 11 := by funext j; revert j; decide +kernel

theorem pro_main (hj : ¬ last j) (h13 : j.val < 13) {o1 : Fin 2 → ℕ} {h1} {o2 : Fin 3 → ℕ} {h2} {o3 : Fin 1 → ℕ} {h3} {hsrc hdst hsem}
    (e1 : o1 = blkOff i j) (e2 : o2 = slotOff (slot j)) (e3 : o3 = semOff (slot j)) :
    All (JR c X i) (pst j.val)
      ⊢ iprop((All (JR c X i) (pst (j.val + 1)) -∗ wpc c (k ⟨⟩) Q)
          -∗ wpc c (.op (.enqueueDma (blk xM o1 h1) (.here (slM o2 h2)) (.dma (smAt cc0_scratch3 o3 h3).sem) hsrc hdst hsem) k) Q) := by
  have s := swap1 (JR c X i) (pst j.val) (pst (j.val + 1)) j (fun a ha => (pst_move j a h13).2.2 ha)
  rw [(pst_move j j h13).1, (pst_move j j h13).2.1, JR_six, JR_one] at s
  iintro HA Hk
  ihave HA := s $$ HA
  icases HA with ⟨Hj, HA⟩
  iapply (begin_main c X i j hj rfl e1 e2 e3) $$ Hj
  iintro Hj
  iapply Hk
  iapply HA
  iexact Hj

theorem pro_both (hj : last j) (h13 : j.val < 13) {o1 : Fin 2 → ℕ} {h1} {o2 : Fin 3 → ℕ} {h2} {o3 : Fin 1 → ℕ} {h3} {hsrc hdst hsem}
    {p1 : Fin 2 → ℕ} {g1} {p2 : Fin 3 → ℕ} {g2} {p3 : Fin 1 → ℕ} {g3} {gsrc gdst gsem}
    (e1 : o1 = blkOff i j) (e2 : o2 = slotOff (slot j)) (e3 : o3 = semOff (slot j))
    (d1 : p1 = tailOff i j) (d2 : p2 = slotTailOff (slot j)) (d3 : p3 = semOff (slot j)) :
    All (JR c X i) (pst j.val)
      ⊢ iprop((All (JR c X i) (pst (j.val + 1)) -∗ wpc c (k ⟨⟩) Q)
          -∗ wpc c (.op (.enqueueDma (blk xM o1 h1) (.here (slM o2 h2)) (.dma (smAt cc0_scratch3 o3 h3).sem) hsrc hdst hsem)
              fun _ => .op (.enqueueDma (blkT xM p1 g1) (.here (slT p2 g2)) (.dma (smAt cc0_scratch5 p3 g3).sem) gsrc gdst gsem) k) Q) := by
  have s := swap1 (JR c X i) (pst j.val) (pst (j.val + 1)) j (fun a ha => (pst_move j a h13).2.2 ha)
  rw [(pst_move j j h13).1, (pst_move j j h13).2.1, JR_six, JR_one] at s
  iintro HA Hk
  ihave HA := s $$ HA
  icases HA with ⟨Hj, HA⟩
  iapply (begin_both c X i j hj rfl e1 e2 e3 d1 d2 d3) $$ Hj
  iintro Hj
  iapply Hk
  iapply HA
  iexact Hj

theorem epi_main (s : Fin 13) (hs : slot j = s) (hj : ¬ last j) (h11 : 11 ≤ j.val) {o1 : Fin 2 → ℕ} {h1} {o2 : Fin 3 → ℕ} {h2} {o3 : Fin 1 → ℕ} {h3} {hsrc hdst} (e3 : o3 = semOff s) :
    iprop(All (JR c X i) (est j.val) ∗ owP (F := F) c)
      ⊢ iprop((iprop(All (JR c X i) (est (j.val + 1)) ∗ owP (F := F) c) -∗ wpc c (k ⟨⟩) Q)
          -∗ wpc c (.op (.waitDma2 (smAt cc0_scratch4 o3 h3).sem (slM o2 h2) (blk yM o1 h1) hsrc hdst) k) Q) := by
  subst hs
  have s := swap1 (JR c X i) (est j.val) (est (j.val + 1)) j (fun a ha => (est_move j a h11).2.2 ha)
  rw [(est_move j j h11).1, (est_move j j h11).2.1, JR_three, JR_four] at s
  iintro ⟨HA, Hw⟩ Hk
  ihave HA := s $$ HA
  icases HA with ⟨Hj, HA⟩
  iapply (finish_main c X i j hj e3) $$ [Hj Hw]
  · isplitl [Hj] <;> iassumption
  iintro ⟨Hj, Hw⟩
  iapply Hk
  isplitl [Hj HA]
  · iapply HA; iexact Hj
  iexact Hw

theorem epi_both (s : Fin 13) (hs : slot j = s) (hj : last j) (h11 : 11 ≤ j.val) {o1 : Fin 2 → ℕ} {h1} {o2 : Fin 3 → ℕ} {h2} {o3 : Fin 1 → ℕ} {h3} {hsrc hdst}
    {p1 : Fin 2 → ℕ} {g1} {p2 : Fin 3 → ℕ} {g2} {p3 : Fin 1 → ℕ} {g3} {gsrc gdst} (e3 : o3 = semOff s) (d3 : p3 = semOff s) :
    iprop(All (JR c X i) (est j.val) ∗ owP (F := F) c)
      ⊢ iprop((iprop(All (JR c X i) (est (j.val + 1)) ∗ owP (F := F) c) -∗ wpc c (k ⟨⟩) Q)
          -∗ wpc c (.op (.waitDma2 (smAt cc0_scratch4 o3 h3).sem (slM o2 h2) (blk yM o1 h1) hsrc hdst)
              fun _ => .op (.waitDma2 (smAt cc0_scratch6 p3 g3).sem (slT p2 g2) (blkT yM p1 g1) gsrc gdst) k) Q) := by
  subst hs
  have s := swap1 (JR c X i) (est j.val) (est (j.val + 1)) j (fun a ha => (est_move j a h11).2.2 ha)
  rw [(est_move j j h11).1, (est_move j j h11).2.1, JR_three, JR_four] at s
  iintro ⟨HA, Hw⟩ Hk
  ihave HA := s $$ HA
  icases HA with ⟨Hj, HA⟩
  iapply (finish_both c X i j hj e3 d3) $$ [Hj Hw]
  · isplitl [Hj] <;> iassumption
  iintro ⟨Hj, Hw⟩
  iapply Hk
  isplitl [Hj HA]
  · iapply HA; iexact Hj
  iexact Hw

/-- Core `i`'s body. -/
abbrev bodyP : Prog (TpuEff nD τ sig (Elt F) Λ₀ .tc) PUnit :=
  cc0_body (F := F) i xM (Memref.isWhole_whole _) yM (Memref.isWhole_whole _) ringM (Memref.isWhole_whole _) maxM (Memref.isWhole_whole _)
    sumM (Memref.isWhole_whole _) cc0_scratch3 cc0_scratch4 cc0_scratch5 cc0_scratch6

/-- The two accumulators at anything, and the core owing nothing. -/
def rest : sProp 𝕄 := iprop((∃ f, maxP (F := F) c f) ∗ (∃ f, sumP (F := F) c f) ∗ owP (F := F) c)

/-- The body: from thirteen jobs with slots and three without, none begun, to every job written. -/
theorem run_body : iprop(All (JR c X i) (pst 0) ∗ rest (F := F) c) ⊢ wpc c (bodyP (F := F) i) (fun _ => iprop(All (JR c X i) (est 16) ∗ rest (F := F) c)) := by
  unfold bodyP
  rw [cc0_body_eq_skeleton]
  unfold cc0_body_skel
  rw [k0_part1_eq_skeleton, k0_part2_eq_skeleton, k0_part3_eq_skeleton, k0_part4_eq_skeleton, k0_part5_eq_skeleton]
  unfold k0_part1_skel k0_part2_skel k0_part3_skel k0_part4_skel k0_part5_skel rest
  simp only [Prog.bind_lift, Prog.bind_op, Prog.pure_eq_ret, Prog.bind_ret, Prog.bind_assoc]
  iintro ⟨HA, ⟨%f, Hm⟩, ⟨%g, Hs⟩, Hw⟩
  iapply (pro_main c X i ⟨0, by decide⟩ (by decide) (by decide) (off1_eq i 0) rfl rfl) $$ HA
  iintro HA
  iapply (pro_main c X i ⟨1, by decide⟩ (by decide) (by decide) (off2_eq i 0) rfl rfl) $$ HA
  iintro HA
  iapply (pro_main c X i ⟨2, by decide⟩ (by decide) (by decide) (off3_eq i 0) rfl rfl) $$ HA
  iintro HA
  iapply (pro_main c X i ⟨3, by decide⟩ (by decide) (by decide) (off4_eq i 0) rfl rfl) $$ HA
  iintro HA
  iapply (pro_main c X i ⟨4, by decide⟩ (by decide) (by decide) (off5_eq i 0) rfl rfl) $$ HA
  iintro HA
  iapply (pro_main c X i ⟨5, by decide⟩ (by decide) (by decide) (off6_eq i 0) rfl rfl) $$ HA
  iintro HA
  iapply (pro_main c X i ⟨6, by decide⟩ (by decide) (by decide) (off7_eq i 0) rfl rfl) $$ HA
  iintro HA
  iapply (pro_both c X i ⟨7, by decide⟩ (by decide) (by decide) (off8_eq i 0) rfl rfl (off9_eq i 0) rfl rfl) $$ HA
  iintro HA
  iapply (pro_main c X i ⟨8, by decide⟩ (by decide) (by decide) (off1_eq i 1) rfl rfl) $$ HA
  iintro HA
  iapply (pro_main c X i ⟨9, by decide⟩ (by decide) (by decide) (off2_eq i 1) rfl rfl) $$ HA
  iintro HA
  iapply (pro_main c X i ⟨10, by decide⟩ (by decide) (by decide) (off3_eq i 1) rfl rfl) $$ HA
  iintro HA
  iapply (pro_main c X i ⟨11, by decide⟩ (by decide) (by decide) (off4_eq i 1) rfl rfl) $$ HA
  iintro HA
  iapply (pro_main c X i ⟨12, by decide⟩ (by decide) (by decide) (off5_eq i 1) rfl rfl) $$ HA
  iintro HA
  iapply (run_loop c X i _) $$ [HA Hm Hs Hw]
  · unfold Inv
    isplitl [HA]
    · rw [← pst_last]; iexact HA
    isplitl [Hm]
    · iexists f; isplitr; · ipureintro; intro h; exact absurd h (Nat.lt_irrefl 0)
      iexact Hm
    isplitl [Hs]
    · iexists g; isplitr; · ipureintro; intro h; exact absurd h (by decide)
      iexact Hs
    iexact Hw
  iintro HI
  unfold Inv
  rw [est_first]
  icases HI with ⟨HA, ⟨%f', -, Hm⟩, ⟨%g', -, Hs⟩, Hw⟩
  iapply (epi_main c X i ⟨11, by decide⟩ ⟨11, by decide⟩ (by decide) (by decide) (by decide) rfl) $$ [HA Hw]
  · isplitl [HA]
    · iexact HA
    · iexact Hw
  iintro ⟨HA, Hw⟩
  iapply (epi_main c X i ⟨12, by decide⟩ ⟨12, by decide⟩ (by decide) (by decide) (by decide) rfl) $$ [HA Hw]
  · isplitl [HA]
    · iexact HA
    · iexact Hw
  iintro ⟨HA, Hw⟩
  iapply (epi_main c X i ⟨13, by decide⟩ ⟨0, by decide⟩ (by decide) (by decide) (by decide) rfl) $$ [HA Hw]
  · isplitl [HA]
    · iexact HA
    · iexact Hw
  iintro ⟨HA, Hw⟩
  iapply (epi_main c X i ⟨14, by decide⟩ ⟨1, by decide⟩ (by decide) (by decide) (by decide) rfl) $$ [HA Hw]
  · isplitl [HA]
    · iexact HA
    · iexact Hw
  iintro ⟨HA, Hw⟩
  iapply (epi_both c X i ⟨15, by decide⟩ ⟨2, by decide⟩ (by decide) (by decide) (by decide) rfl rfl) $$ [HA Hw]
  · isplitl [HA]
    · iexact HA
    · iexact Hw
  iintro ⟨HA, Hw⟩
  iapply (wp_done c)
  isplitl [HA]; · iexact HA
  isplitl [Hm]
  · iexists f'; iexact Hm
  isplitl [Hs]
  · iexists g'; iexact Hs
  iexact Hw

end Ends

end Cert.Run.Kernel

end
-- ==== Proof.Kernel.Launch.lean ====
/-
  The kernel's run: from any memory the output ends at the jobs' array, the input unchanged, every semaphore at zero.
-/
module

public import proofs.«01_k».proof.Proof.Gen.Kernel.Launch
public import proofs.«01_k».proof.Proof.Gen.Kernel.Points
public import Idealize.ShloMosaic.Lib.Pipeline.Routed
public import proofs.«01_k».proof.Proof.Kernel.Body

@[expose] public section

set_option maxRecDepth 16384
set_option maxHeartbeats 1000000

noncomputable section

namespace Cert.Run.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

section Point
variable (c : Dev nD) (X : Arr F) (i : Coord)

/-- The kernel's own semaphores, slot by slot. -/
def osem : Fin 13 × Fin 4 → SemLoc sig := fun k =>
  .dma (sm (match k.2 with | 0 => cc0_scratch3 | 1 => cc0_scratch4 | 2 => cc0_scratch5 | 3 => cc0_scratch6) k.1)
theorem ownSemFacts : Pipeline.OwnSemFacts (cfg0.spec) osem := by decide +kernel

theorem four (Φ : Fin 4 → sProp (MT nD τ sig Unit (Elt F) ℕ (UC sig nD τ) ℕ)) : bigSep Finset.univ Φ = iprop(Φ 0 ∗ Φ 1 ∗ Φ 2 ∗ Φ 3) :=
  BI.bigSep_univ_eq_bigSepL [0, 1, 2, 3] (by decide) (by decide) Φ
theorem own_eq : (Pipeline.ownSems0 osem c : sProp 𝕄) = bigSep Finset.univ (sems (F := F) c) := by
  unfold Pipeline.ownSems0
  rw [BI.bigSep_univ_prod]
  exact BI.bigSep_congr fun s _ => four _

/-- The scratch at anything. -/
def scratch : sProp 𝕄 := iprop((∃ f, ringP (F := F) c Finset.univ f) ∗ (∃ f, maxP (F := F) c f) ∗ (∃ f, sumP (F := F) c f))

/-- The output after core `i`: its rows written, the others as before. -/
def mix (f : Arr F) : Arr F := fun z => if z ∈ rows i then outArr X z else f z

theorem in_split : inP c Finset.univ X ⊣⊢ iprop(inP c (rows i) X ∗ inP c (Finset.univ \ rows i) X) := pointsTo_split_subset (Finset.subset_univ _)
theorem out_split (f : Arr F) : outP c Finset.univ f ⊣⊢ iprop(outP c (rows i) f ∗ outP c (Finset.univ \ rows i) f) := pointsTo_split_subset (Finset.subset_univ _)

/-- What the body of core `i` takes, -/
def before (f : Arr F) : sProp 𝕄 :=
  iprop(inP c Finset.univ X ∗ outP c Finset.univ f ∗ scratch (F := F) c ∗ (Pipeline.ownSems0 osem c : sProp 𝕄) ∗ owP (F := F) c)

theorem open_before (f : Arr F) :
    before c X f ⊢ iprop((All (JR c X i) (pst 0) ∗ rest (F := F) c) ∗ (inP c (Finset.univ \ rows i) X ∗ outP c (Finset.univ \ rows i) f)) := by
  unfold before scratch rest
  rw [own_eq]
  iintro ⟨HX, HO, ⟨⟨%r, Hr⟩, Hm, Hs⟩, Hsem, Hw⟩
  ihave HX := (in_split c X i).1 $$ HX
  icases HX with ⟨HX, HX'⟩
  ihave HO := (out_split c i f).1 $$ HO
  icases HO with ⟨HO, HO'⟩
  ihave HX := (in_open c X i) $$ HX
  ihave HO := (out_open c i f) $$ HO
  ihave HR := (ring_open c r) $$ [Hr Hsem]
  · isplitl [Hr]
    · iexact Hr
    · iexact Hsem
  isplitr [HX' HO']
  · isplitl [HX HO HR]
    · iapply (all_start c X i)
      isplitl [HX]
      · iexact HX
      isplitl [HO]
      · iexact HO
      iexact HR
    · isplitl [Hm]
      · iexact Hm
      isplitl [Hs]
      · iexact Hs
      iexact Hw
  · isplitl [HX']
    · iexact HX'
    · iexact HO'

theorem close_after (f : Arr F) :
    iprop((All (JR c X i) (est 16) ∗ rest (F := F) c) ∗ (inP c (Finset.univ \ rows i) X ∗ outP c (Finset.univ \ rows i) f)) ⊢ before c X (mix X i f) := by
  have e1 : outP c (rows i) (outArr X) = outP c (rows i) (mix X i f) := pointsTo_congr fun z hz => (if_pos hz).symm
  have e2 : outP c (Finset.univ \ rows i) f = outP c (Finset.univ \ rows i) (mix X i f) :=
    pointsTo_congr fun z hz => (if_neg (Finset.mem_sdiff.mp hz).2).symm
  unfold before scratch rest
  rw [own_eq, e2]
  iintro ⟨⟨HA, Hm, Hs, Hw⟩, HX', HO'⟩
  ihave HA := (all_end c X i) $$ HA
  icases HA with ⟨HX, HO, HR⟩
  ihave HX := (in_close c X i) $$ HX
  ihave HO := (out_close c X i) $$ HO
  ihave HR := (ring_close c (fun _ => X (ValueIdx.ix2 ⟨0, by decide⟩ ⟨0, by decide⟩))) $$ HR
  icases HR with ⟨Hr, Hsem⟩
  isplitl [HX HX']
  · iapply (in_split c X i).2
    isplitl [HX]
    · iexact HX
    · iexact HX'
  isplitl [HO HO']
  · iapply (out_split c i (mix X i f)).2
    rw [← e1]
    isplitl [HO]
    · iexact HO
    · iexact HO'
  isplitl [Hr Hm Hs]
  · isplitl [Hr]
    · iexact Hr
    isplitl [Hm]
    · iexact Hm
    iexact Hs
  isplitl [Hsem]
  · iexact Hsem
  iexact Hw

/-- Core `i`'s body on whole buffers. -/
theorem run_point (f : Arr F) : before c X f ⊢ wpc c (bodyP (F := F) i) (fun _ => before c X (mix X i f)) :=
  (open_before c X i f).trans (wpc_frame c (run_body c X i) fun _ => close_after c X i f)

end Point

/-! ## The launch -/

section Launch
variable (m : (ℓ : Loc nD τ sig) → Buf (Elt F) ℓ) (g : Dev nD → PrngReg)

/-- The input as core `c` finds it. -/
def argOf (c : Dev nD) : Arr F := m ((c : Thread nD τ).loc main_arg0)

/-- The invariant before point `t`: the rows of the cores before it written. -/
def Φ (c : Dev nD) (t : ℕ) : sProp 𝕄 :=
  iprop(inP c Finset.univ (argOf m c) ∗ (∃ f, ⌜∀ z : S32x1000000.Idx, (z 0).val / 16 < t → f z = outArr (argOf m c) z⌝ ∗ outP c Finset.univ f)
    ∗ scratch (F := F) c ∗ (Pipeline.ownSems0 osem c : sProp 𝕄) ∗ ∃ r, prngReg c r)

def dats (_ : Fin 1) (c : Dev nD) : Pipeline.Dat τ (Elt F) Unit ℕ (UC sig nD τ) ℕ cfg0 c where
  A w := w.elim0
  after w _ := w.elim0
  Φ t := Φ m c t.val
  q _ := fullShare
  owed _ := 0

theorem coords_val (t : Fin cfg0.N) : (grid0.coords t 0).val = t.val := by
  rcases fin_N0 t with h | h <;> subst h <;> rfl

theorem defs_tc : (defs₀ (F := F)) .tc cfg0.body = fun a => bodyAt0 a.1 := rfl
theorem prog_eq (t : Fin cfg0.N) : (defs₀ (F := F)) .tc cfg0.body (cfg0.bodyArgs t (cfg0.slots t)) = bodyP (F := F) (grid0.coords t) :=
  (congrFun defs_tc _).trans rfl

theorem step (c : Dev nD) (t : Fin cfg0.N) :
    iprop(Φ m c t.val ∗ owP (F := F) c) ⊢ wpc c (bodyP (F := F) (grid0.coords t)) (fun _ => iprop(Φ m c (t.val + 1) ∗ owP (F := F) c)) := by
  unfold Φ
  iintro ⟨⟨HX, ⟨%f, %hf, HO⟩, HS, Hsem, Hg⟩, Hw⟩
  iapply (wpc_frame c (R := iprop(∃ r, prngReg c r)) (run_point c (argOf m c) (grid0.coords t) f) (Q' := fun _ => _) fun _ => ?_)
  case _ =>
    unfold before
    iintro ⟨⟨HX, HO, HS, Hsem, Hw⟩, Hg⟩
    isplitr [Hw]
    · isplitl [HX]
      · iexact HX
      isplitl [HO]
      · iexists (mix (argOf m c) (grid0.coords t) f)
        isplitr
        · ipureintro
          exact fun z hz => (by
            unfold mix
            split
            · rfl
            · rename_i h
              rw [mem_rows, coords_val] at h
              exact hf z (by omega))
        iexact HO
      isplitl [HS]
      · iexact HS
      isplitl [Hsem]
      · iexact Hsem
      iexact Hg
    iexact Hw
  unfold before
  isplitr [Hg]
  · isplitl [HX]
    · iexact HX
    isplitl [HO]
    · iexact HO
    isplitl [HS]
    · iexact HS
    isplitl [Hsem]
    · iexact Hsem
    iexact Hw
  iexact Hg

theorem noWin (P : Fin cfg0.W → sProp (MT nD τ sig Unit (Elt F) ℕ (UC sig nD τ) ℕ)) : bigSep Finset.univ P = Idealize.SL.BI.emp :=
  BI.bigSep_univ_eq_bigSepL [] (by decide) (by decide) P

set_option backward.isDefEq.respectTransparency.types false in
theorem body_obligation (c : Dev nD) : Pipeline.BodyObligation (dats (F := F) m 0 c) (defs₀ (F := F)) 𝒱₀ () Set.univ := fun t => by
  rw [noWin, noWin]
  rw [show (dats m 0 c).Φ t.castSucc = Φ m c t.val from rfl, show (dats m 0 c).Φ t.succ = Φ m c (t.val + 1) from rfl]
  unfold Pipeline.Dat.owesAt Pipeline.owesWithin
  rw [show (dats m 0 c).owed t.castSucc = 0 from rfl, show (dats m 0 c).owed t.succ = 0 from rfl]
  iintro ⟨HΦ, ⟨%W, -, HW⟩, -⟩
  sl_rw [prog_eq t]
  iapply (wpc_frame c (R := iprop(emp)) (step m c t) (Q' := fun _ => _) fun _ => ?_)
  case _ =>
    iintro ⟨⟨HΦ, ⟨%W', HW⟩⟩, -⟩
    isplitl [HΦ]
    · iexact HΦ
    isplitl [HW]
    · iexists W'; isplitr; · ipureintro; exact fun _ _ => Or.inl trivial
      iexact HW
    iempintro
  isplitl [HΦ HW]
  · isplitl [HΦ]
    · iexact HΦ
    · iexists W; iexact HW
  iempintro

/-- The output's array and the input's, at the end. -/
def ends (c : Dev nD) (b : Ref sig .tc) : Buf (Elt F) ((c : Thread nD τ).loc b) :=
  if h : b = main_v0 then h ▸ (outArr (argOf m c) : Buf (Elt F) ((c : Thread nD τ).loc main_v0)) else m ((c : Thread nD τ).loc b)

theorem pair_routed (c : Dev nD) (W : (b : Ref sig .tc) → Buf (Elt F) ((c : Thread nD τ).loc b)) :
    (Pipeline.routed {main_arg0, main_v0} c W : sProp 𝕄) = iprop(inP c Finset.univ (W main_arg0) ∗ outP c Finset.univ (W main_v0)) := by
  unfold Pipeline.routed
  rw [BI.bigSep_insert (by decide), BI.bigSep_singleton]
  rfl

set_option backward.isDefEq.respectTransparency.types false in
/-- From any memory with every semaphore at zero, every weakly fair run ends with the output at the jobs' array, the input
    unchanged and every semaphore at zero. -/
theorem run_main : θ_run defs (onTc (τ := τ) (main (F := F))) ⟨m, fun _ => 0, g⟩
    (fun r => (∀ c : Dev nD, r.2.mem ((c.tc : Thread nD τ).loc main_v0) = outArr (argOf m c)
      ∧ r.2.mem ((c.tc : Thread nD τ).loc main_arg0) = m ((c.tc : Thread nD τ).loc main_arg0)) ∧ r.2.sem = fun _ => 0) :=
  Pipeline.θ_run_frame_routed cfgs (dats m) (0 : Fin 1) launch0 ownSemFacts defs₀ 𝒱₀ m g main
    (hbody := fun c => (body_obligation m c).loose) (hshare := fun c => (dats m 0 c).share_full fun _ => rfl)
    (howed := fun _ _ => rfl)
    (V := fun c b => m ((c : Thread nD τ).loc b))
    (hmain := Pipeline.hmain_region cfgs 0 defs₀ 𝒱₀ m main fun c => (main_chain c).trans rfl)
    (hA := fun _ w => w.elim0)
    (R := {main_arg0, main_v0}) (hR := by decide) (Y := ends m)
    (hin := fun c => by
      rw [show (dats m 0 c).Φ 0 = Φ m c 0 from rfl]
      unfold Pipeline.Ends Φ scratch
      rw [pair_routed, scopedRest0_eq]
      iintro ⟨⟨HX, HO⟩, Hsem, HS, Hg⟩
      isplitl [HX]
      · iexact HX
      isplitl [HO]
      · iexists (m ((c : Thread nD τ).loc main_v0) : Arr F)
        isplitr
        · ipureintro; exact fun z hz => absurd hz (Nat.not_lt_zero _)
        iexact HO
      isplitl [HS]
      · iexact HS
      isplitl [Hsem]
      · iexact Hsem
      iexact Hg)
    (hout := fun c => by
      rw [show (dats m 0 c).Φ (Fin.last cfg0.N) = Φ m c 2 from rfl]
      unfold Pipeline.Ends Φ scratch
      rw [pair_routed, scopedRest0_eq]
      iintro ⟨HX, ⟨%f, %hf, HO⟩, HS, Hsem, Hg⟩
      rw [show f = outArr (argOf m c) from funext fun z => hf z (by have : (z 0).val < 32 := (z 0).isLt; omega)]
      isplitl [HX HO]
      · isplitl [HX]
        · iexact HX
        · iexact HO
      isplitl [Hsem]
      · iexact Hsem
      isplitl [HS]
      · iexact HS
      iexact Hg)
    (Q' := fun r => (∀ c : Dev nD, r.2.mem ((c.tc : Thread nD τ).loc main_v0) = outArr (argOf m c)
      ∧ r.2.mem ((c.tc : Thread nD τ).loc main_arg0) = m ((c.tc : Thread nD τ).loc main_arg0)) ∧ r.2.sem = fun _ => 0)
    (hQ' := fun r h => ⟨fun c => ⟨(h.1 c).2.1 main_v0 (by decide), (h.1 c).2.1 main_arg0 (by decide)⟩, h.2⟩)

end Launch

end Cert.Run.Kernel

end
-- ==== Proof.Softmax.Row.lean ====
/-
  A row of extended reals: its maximum and its sum over the first columns, taken piece by piece, and the sum of the
  exponentials of a row whose maximum is finite.
-/
module

public import Idealize.ShloMosaic.PureOps.Ideal.Laws
public import Idealize.ShloMosaic.Lib.IdealHost

@[expose] public section

namespace Cert.Run.Row

open Idealize.ShloMosaic
open scoped BigOperators

/-- The greatest of the first `n` entries. -/
noncomputable def top (f : ℕ → EReal) (n : ℕ) : EReal := (Finset.range n).sup f
/-- The sum of the first `n` entries. -/
noncomputable def total (f : ℕ → EReal) (n : ℕ) : EReal := ∑ c ∈ Finset.range n, f c

theorem top_add (f : ℕ → EReal) (n m : ℕ) : top f (n + m) = max (top f n) (top (fun q => f (n + q)) m) := by
  induction m with
  | zero => simp [top]
  | succ m ih =>
    have e : ∀ (g : ℕ → EReal) (k : ℕ), top g (k + 1) = max (top g k) (g k) := fun g k => by
      unfold top; rw [Finset.range_add_one, Finset.sup_insert, max_comm]
    rw [← Nat.add_assoc, e, ih, e, max_assoc]
theorem total_add (f : ℕ → EReal) (n m : ℕ) : total f (n + m) = total f n + total (fun q => f (n + q)) m :=
  Finset.sum_range_add f n m
theorem top_zero (f : ℕ → EReal) : top f 0 = ⊥ := rfl
theorem total_zero (f : ℕ → EReal) : total f 0 = 0 := rfl

/-- A fold of `max` from the bottom over coordinates below `n`. -/
theorem fold_top {n : ℕ} (g : Fin n → EReal) (f : ℕ → EReal) (b : EReal) (hb : b = ⊥) (h : ∀ k, g k = f k.val) :
    (Finset.univ : Finset (Fin n)).fold max b g = top f n := by
  subst hb
  have e : (Finset.univ : Finset (Fin n)).fold max ⊥ g = Finset.univ.sup g := rfl
  rw [e]
  unfold top
  refine le_antisymm (Finset.sup_le fun k _ => ?_) (Finset.sup_le fun c hc => ?_)
  · rw [h k]; exact Finset.le_sup (f := f) (Finset.mem_range.2 k.isLt)
  · have := Finset.le_sup (f := g) (Finset.mem_univ ⟨c, Finset.mem_range.1 hc⟩)
    rwa [h] at this
/-- A sum over coordinates below `n`. -/
theorem sum_total {n : ℕ} (g : Fin n → EReal) (f : ℕ → EReal) (h : ∀ k, g k = f k.val) : ∑ k, g k = total f n := by
  unfold total
  rw [Finset.sum_range]
  exact Finset.sum_congr rfl fun k _ => h k

theorem top_congr {f g : ℕ → EReal} (n : ℕ) (h : ∀ c, c < n → f c = g c) : top f n = top g n :=
  Finset.sup_congr rfl fun c hc => h c (Finset.mem_range.1 hc)
theorem total_congr {f g : ℕ → EReal} (n : ℕ) (h : ∀ c, c < n → f c = g c) : total f n = total g n :=
  Finset.sum_congr rfl fun c hc => h c (Finset.mem_range.1 hc)

/-- Every exponential is at least zero. -/
theorem exp_nonneg (x : EReal) : 0 ≤ Ideal.exp x := by
  induction x with
  | bot => simp
  | top => simp
  | coe r => rw [Ideal.exp_coe]; exact EReal.coe_nonneg.2 (Real.exp_pos r).le
/-- The exponentials of a row less its maximum do not add up to zero, if that maximum is finite: one of them is one. -/
theorem total_exp_ne_zero (f : ℕ → EReal) (n : ℕ) (hb : top f n ≠ ⊥) (ht : top f n ≠ ⊤) :
    total (fun c => Ideal.exp (f c - top f n)) n ≠ 0 := by
  have hn : (Finset.range n).Nonempty := by
    rw [Finset.nonempty_iff_ne_empty]; intro h
    exact hb (by unfold top; rw [h]; rfl)
  obtain ⟨c, hc, e⟩ := Finset.exists_mem_eq_sup _ hn f
  have e' : top f n = f c := e
  have h1 : Ideal.exp (f c - top f n) = 1 := by
    rw [← e', EReal.sub_self ht hb]
    show Ideal.exp ((0 : ℝ) : EReal) = 1
    rw [Ideal.exp_coe, Real.exp_zero]; rfl
  have h2 : Ideal.exp (f c - top f n) ≤ total (fun c => Ideal.exp (f c - top f n)) n :=
    Finset.single_le_sum (f := fun c => Ideal.exp (f c - top f n)) (fun _ _ => exp_nonneg _) hc
  rw [h1] at h2
  intro h0
  rw [h0] at h2
  exact absurd h2 (by simp)

theorem div_one (x : EReal) : Ideal.div x 1 = x := by
  unfold Ideal.div
  rw [if_neg one_ne_zero, inv_one, mul_one]
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

end Cert.Run.Row
-- ==== Proof.Softmax.Pieces.lean ====
/-
  What one trip of the kernel computes, over the extended reals: the running maximum and the running sum with one more
  piece of the row, and the scaled exponentials.
-/
module

public import proofs.«01_k».proof.Proof.Kernel.Values
public import proofs.«01_k».proof.Proof.Softmax.Row

@[expose] public section

set_option maxRecDepth 16384

noncomputable section

namespace Cert.Run.Kernel

open Cert.Kernel Cert.Kernel.Gen
open Idealize.ShloMosaic
open Idealize.ShloMosaic.ValueIdx (ix1 ix2 ix3 eq_ix2 eq_ix3)
open Cert.Run.Row
open scoped BigOperators

abbrev z1 : Fin 1 := ⟨0, Nat.one_pos⟩

/-- Row `p` of a slot: its entry in column `q`. -/
def slotRow (v : S1x8x125504.Idx → EReal) (p : Fin 8) (q : ℕ) : EReal := v (ix3 z1 p ⟨q % 125504, Nat.mod_lt _ (by decide)⟩)
theorem slotRow_fin (v : S1x8x125504.Idx → EReal) (p : Fin 8) (q : Fin 125504) : v (ix3 z1 p q) = slotRow v p q.val :=
  congrArg (fun q => v (ix3 z1 p q)) (Fin.ext (Nat.mod_eq_of_lt q.isLt).symm)

theorem col_cast {α : Type} (x : S8.Idx → α) (p : Fin 8) : shapeCast S8x1 x shapeCasts_S8_S8x1 (ix2 p z1) = x (ix1 p) := by
  refine shapeCast_apply _ _ _ _ ?_
  rw [Shape.rowMajor_val_one, Shape.rowMajor_val_two]
  show p.val = p.val * 1 + 0
  omega
theorem col_self {α : Type} (x : S8x1.Idx → α) (p : Fin 8) : shapeCast S8x1 x shapeCasts_S8x1_S8x1 (ix2 p z1) = x (ix2 p z1) :=
  shapeCast_apply _ _ _ _ rfl

/-- The greatest entry of row `p` of a block of `n` columns. -/
theorem row_top {n : ℕ} (x : FVec Ideal ⟨2, ![8, n]⟩ .f32) (h : Shape.Reduces ⟨2, ![8, n]⟩ [1] S8) (f : ℕ → EReal) (p : Fin 8)
    (hf : ∀ q : Fin n, x (ix2 p q) = f q.val) (hφ : FKind.Formats .f32) (hacc : (0xFF800000#32 : BitVec 32) = FKind.maximumf.neutral .f32 hφ) :
    multiReduction .maximumf [1] S8 x 0xFF800000#32 h hφ hacc (ix1 p) = top f n := by
  refine (Ideal.multiReduction_maximumf_single x _ h hφ hacc (ix1 p)).trans (fold_top _ f _ ofBits_bot fun k => ?_)
  refine (congrArg x ?_).trans (hf k)
  funext a
  match a with
  | ⟨0, _⟩ => rfl
  | ⟨1, _⟩ => rfl
/-- The sum of row `p` of a block of `n` columns. -/
theorem row_total {n : ℕ} (x : FVec Ideal ⟨2, ![8, n]⟩ .f32) (h : Shape.Reduces ⟨2, ![8, n]⟩ [1] S8) (f : ℕ → EReal) (p : Fin 8)
    (hf : ∀ q : Fin n, x (ix2 p q) = f q.val) (hφ : FKind.Formats .f32) (hacc : (0x00000000#32 : BitVec 32) = FKind.add.neutral .f32 hφ) :
    multiReduction .add [1] S8 x 0x00000000#32 h hφ hacc (ix1 p) = total f n := by
  refine (Ideal.multiReduction_add_single x _ h hφ hacc (ix1 p)).trans (sum_total _ f fun k => ?_)
  refine (congrArg x ?_).trans (hf k)
  funext a
  match a with
  | ⟨0, _⟩ => rfl
  | ⟨1, _⟩ => rfl

/-- The main columns, and the tail, of a block of a slot's size. -/
theorem main_at {α : Type} (v : S8x125504.Idx → α) (p : Fin 8) (q : Fin 124928) :
    extractStridedSlice S8x124928 ![0, 0] v slices_S8x125504_o0_0_S8x124928 (ix2 p q) = v (ix2 p ⟨q.val, by omega⟩) := by
  refine extractStridedSlice_apply _ _ _ _ _ fun a => ?_
  match a with
  | ⟨0, _⟩ => show p.val = 0 + p.val; omega
  | ⟨1, _⟩ => show q.val = 0 + q.val; omega
theorem main_row (v : S8x125504.Idx → EReal) (f : ℕ → EReal) (p : Fin 8) (hf : ∀ q : Fin 125504, v (ix2 p q) = f q.val) (q : Fin 124928) :
    extractStridedSlice S8x124928 ![0, 0] v slices_S8x125504_o0_0_S8x124928 (ix2 p q) = f q.val := by
  rw [main_at, hf]
theorem tail_at {α : Type} (v : S8x125504.Idx → α) (p : Fin 8) (q : Fin 576) :
    extractStridedSlice S8x576 ![0, 124928] v slices_S8x125504_o0_124928_S8x576 (ix2 p q) = v (ix2 p ⟨124928 + q.val, by omega⟩) := by
  refine extractStridedSlice_apply _ _ _ _ _ fun a => ?_
  match a with
  | ⟨0, _⟩ => show p.val = 0 + p.val; omega
  | ⟨1, _⟩ => show 124928 + q.val = 124928 + q.val; omega
/-- The maximum and the sum of a row's main columns, and of its tail. -/
theorem main_top (v : FVec Ideal S8x125504 .f32) (f : ℕ → EReal) (p : Fin 8) (hf : ∀ q : Fin 125504, v (ix2 p q) = f q.val) (hφ : FKind.Formats .f32) (hacc) :
    multiReduction .maximumf [1] S8 (extractStridedSlice S8x124928 ![0, 0] v slices_S8x125504_o0_0_S8x124928) 0xFF800000#32 reduces_S8x124928_S8 hφ hacc (ix1 p) = top f 124928 :=
  row_top _ _ f p (main_row v f p hf) hφ hacc
theorem tail_top (v : FVec Ideal S8x125504 .f32) (f : ℕ → EReal) (p : Fin 8) (hf : ∀ q : Fin 125504, v (ix2 p q) = f q.val) (hφ : FKind.Formats .f32) (hacc) :
    multiReduction .maximumf [1] S8 (extractStridedSlice S8x576 ![0, 124928] v slices_S8x125504_o0_124928_S8x576) 0xFF800000#32 reduces_S8x576_S8 hφ hacc (ix1 p)
      = top (fun q => f (124928 + q)) 576 :=
  row_top _ _ (fun q => f (124928 + q)) p (fun q => (tail_at v p q).trans (hf _)) hφ hacc
theorem main_total (v : FVec Ideal S8x125504 .f32) (f : ℕ → EReal) (p : Fin 8) (hf : ∀ q : Fin 125504, v (ix2 p q) = f q.val) (hφ : FKind.Formats .f32) (hacc) :
    multiReduction .add [1] S8 (extractStridedSlice S8x124928 ![0, 0] v slices_S8x125504_o0_0_S8x124928) 0x00000000#32 reduces_S8x124928_S8 hφ hacc (ix1 p) = total f 124928 :=
  row_total _ _ f p (main_row v f p hf) hφ hacc
theorem tail_total (v : FVec Ideal S8x125504 .f32) (f : ℕ → EReal) (p : Fin 8) (hf : ∀ q : Fin 125504, v (ix2 p q) = f q.val) (hφ : FKind.Formats .f32) (hacc) :
    multiReduction .add [1] S8 (extractStridedSlice S8x576 ![0, 124928] v slices_S8x125504_o0_124928_S8x576) 0x00000000#32 reduces_S8x576_S8 hφ hacc (ix1 p)
      = total (fun q => f (124928 + q)) 576 :=
  row_total _ _ (fun q => f (124928 + q)) p (fun q => (tail_at v p q).trans (hf _)) hφ hacc
/-- A column spread over a block's columns. -/
theorem spread_at {α : Type} (m : S8x1.Idx → α) (p : Fin 8) (q : Fin 125504) :
    broadcastTo S8x125504 m broadcasts_S8x1_S8x125504 (ix2 p q) = m (ix2 p z1) := by
  refine broadcastTo_apply _ _ _ _ fun a => ?_
  match a with
  | ⟨0, _⟩ => rfl
  | ⟨1, _⟩ => rfl

/-- The number of columns of trip `k`'s piece. -/
def width (k : Trip) : ℕ := if k.val % 8 = 7 then 125504 else 124928

theorem last_bit (k : Trip) (h : k.val % 8 = 7) : Scalar.cmpi .eq (Scalar.remsi (Scalar.remsi (Scf.iv 0#32 1#32 k) 24#32) 8#32) 7#32 = 1#1 :=
  (core_cond k).mpr h
theorem next_bit (k : Trip) (h : k.val % 8 ≠ 0) : Scalar.cmpi .eq (Scalar.remsi (Scalar.remsi (Scf.iv 0#32 1#32 k) 24#32) 8#32) 0#32 = 0#1 := by
  revert k; decide +kernel

/-- The maximum of the main columns joined, in the last chunk, with that of the tail. -/
theorem piece_top (k : Trip) (f : ℕ → EReal) (x y : EReal) (hx : x = top f 124928)
    (hy : y = if k.val % 8 = 7 then top (fun q => f (124928 + q)) 576 else ⊥) : max x y = top f (width k) := by
  rw [hx, hy]
  unfold width
  split
  · exact (top_add f 124928 576).symm
  · exact max_bot_right _
theorem piece_total (k : Trip) (f : ℕ → EReal) (x y : EReal) (hx : x = total f 124928)
    (hy : y = if k.val % 8 = 7 then total (fun q => f (124928 + q)) 576 else 0) : x + y = total f (width k) := by
  rw [hx, hy]
  unfold width
  split
  · exact (total_add f 124928 576).symm
  · exact add_zero _

theorem cast_row (v : S1x8x125504.Idx → EReal) (p : Fin 8) (q : Fin 125504) :
    shapeCast S8x125504 v shapeCasts_S1x8x125504_S8x125504 (ix2 p q) = slotRow v p q.val := by
  rw [cast_slot (F := Ideal) v]
  exact slotRow_fin v p q

/-- The running maximum after a trip of the first phase. -/
theorem pay1_at (k : Trip) (v : S1x8x125504.Idx → EReal) (a : ColV Ideal) (p : Fin 8) :
    k0_pay1 (F := Ideal) k v a (ix2 p z1) = if k.val % 8 = 0 then top (slotRow v p) (width k) else max (a (ix2 p z1)) (top (slotRow v p) (width k)) := by
  have hm := main_top _ (slotRow v p) p (cast_row v p) (.inl rfl) rfl
  have ht := tail_top _ (slotRow v p) p (cast_row v p) (.inl rfl) rfl
  have hb : ∀ (w : ColV Ideal),
      w (ix2 p z1) = (if k.val % 8 = 7 then top (fun q => slotRow v p (124928 + q)) 576 else ⊥) →
      maximumf (F := Ideal) (φ := .f32) (shapeCast S8x1 (multiReduction .maximumf [1] S8 (extractStridedSlice S8x124928 ![0, 0] (shapeCast S8x125504 v shapeCasts_S1x8x125504_S8x125504) slices_S8x125504_o0_0_S8x124928 : FVec Ideal S8x124928 .f32) 0xFF800000#32 reduces_S8x124928_S8 (.inl rfl) rfl) shapeCasts_S8_S8x1) w (ix2 p z1) = top (slotRow v p) (width k) := by
    intro w hw
    have h1 := (col_cast _ p).trans hm
    exact piece_top k (slotRow v p) _ _ h1 hw
  unfold k0_pay1
  refine (col_self _ p).trans ?_
  by_cases h0 : k.val % 8 = 0
  · simp only [first_bit k h0, select_one]
    rw [if_pos h0]
    refine hb _ ?_
    rw [core_bit k (by omega), select_zero, if_neg (by omega)]
    exact ofBits_bot
  · simp only [next_bit k h0, select_zero]
    rw [if_neg h0]
    refine congrArg (max _) (hb _ ?_)
    by_cases h7 : k.val % 8 = 7
    · rw [last_bit k h7, select_one, if_pos h7]
      exact (col_cast _ p).trans ht
    · rw [core_bit k h7, select_zero, if_neg h7]
      exact ofBits_bot

/-- The exponential of row `p` of a slot less the maximum. -/
def expRow (v : S1x8x125504.Idx → EReal) (m : ColV Ideal) (p : Fin 8) (q : ℕ) : EReal := Ideal.exp (slotRow v p q - m (ix2 p z1))

theorem exp_at (v : S1x8x125504.Idx → EReal) (m : ColV Ideal) (p : Fin 8) (q : Fin 125504) :
    exp (F := Ideal) (φ := .f32) (subf (shapeCast S8x125504 v shapeCasts_S1x8x125504_S8x125504) (broadcastTo S8x125504 m broadcasts_S8x1_S8x125504)) (ix2 p q)
      = expRow v m p q.val :=
  congrArg Ideal.exp (congrArg₂ (fun x y : EReal => x - y) (cast_row v p q) (spread_at m p q))

/-- The running sum after a trip of the second phase. -/
theorem pay2_at (k : Trip) (v : S1x8x125504.Idx → EReal) (m a : ColV Ideal) (p : Fin 8) :
    k0_pay2 (F := Ideal) k v m a (ix2 p z1) = if k.val % 8 = 0 then total (expRow v m p) (width k) else a (ix2 p z1) + total (expRow v m p) (width k) := by
  have hm := main_total _ (expRow v m p) p (exp_at v m p) (.inl rfl) rfl
  have ht := tail_total _ (expRow v m p) p (exp_at v m p) (.inl rfl) rfl
  have hb : ∀ (w : ColV Ideal),
      w (ix2 p z1) = (if k.val % 8 = 7 then total (fun q => expRow v m p (124928 + q)) 576 else 0) →
      addf (F := Ideal) (φ := .f32) (shapeCast S8x1 (multiReduction .add [1] S8 (extractStridedSlice S8x124928 ![0, 0] (exp (F := Ideal) (φ := .f32) (subf (shapeCast S8x125504 v shapeCasts_S1x8x125504_S8x125504) (broadcastTo S8x125504 m broadcasts_S8x1_S8x125504))) slices_S8x125504_o0_0_S8x124928 : FVec Ideal S8x124928 .f32) 0x00000000#32 reduces_S8x124928_S8 (.inl rfl) rfl) shapeCasts_S8_S8x1) w (ix2 p z1) = total (expRow v m p) (width k) := by
    intro w hw
    exact piece_total k (expRow v m p) _ _ ((col_cast _ p).trans hm) hw
  unfold k0_pay2
  refine (col_self _ p).trans ?_
  by_cases h0 : k.val % 8 = 0
  · simp only [first_bit k h0, select_one]
    rw [if_pos h0]
    refine hb _ ?_
    rw [core_bit k (by omega), select_zero, if_neg (by omega)]
    exact Ideal.ofBits_zero_f32
  · simp only [next_bit k h0, select_zero]
    rw [if_neg h0]
    refine congrArg (fun y : EReal => a (ix2 p z1) + y) (hb _ ?_)
    by_cases h7 : k.val % 8 = 7
    · rw [last_bit k h7, select_one, if_pos h7]
      exact (col_cast _ p).trans ht
    · rw [core_bit k h7, select_zero, if_neg h7]
      exact Ideal.ofBits_zero_f32

/-- The scaled exponentials. -/
theorem pay3_at (v : S1x8x125504.Idx → EReal) (m s : ColV Ideal) (p : Fin 8) (q : Fin 125504) :
    k0_pay3 (F := Ideal) v m s (ix3 z1 p q) = expRow v m p q.val * Ideal.div 1 (s (ix2 p z1)) := by
  unfold k0_pay3
  refine (shapeCast_apply _ _ _ (ix2 p q) ?_).trans ?_
  · rw [Shape.rowMajor_val_two, Shape.rowMajor_val_three]
    show p.val * 125504 + q.val = (0 * 8 + p.val) * 125504 + q.val
    omega
  · refine congrArg₂ (fun x y : EReal => x * y) (exp_at v m p q) ((spread_at _ p q).trans ?_)
    exact congrArg (fun x => Ideal.div x (s (ix2 p z1))) Ideal.ofBits_one_f32

end Cert.Run.Kernel
-- ==== Proof.Softmax.Accum.lean ====
/-
  The kernel's accumulators, over the extended reals: after the first phase the greatest entry of each row, after the
  second the sum of the exponentials; hence each entry of the output.
-/
module

public import proofs.«01_k».proof.Proof.Softmax.Pieces

@[expose] public section

set_option maxRecDepth 16384

noncomputable section

namespace Cert.Run.Kernel

open Cert.Kernel Cert.Kernel.Gen
open Idealize.ShloMosaic
open Idealize.ShloMosaic.ValueIdx (ix1 ix2 ix3 eq_ix2 eq_ix3)
open Cert.Run.Row

/-- Row `r` of the array: its entry in column `c`. -/
def cell (X : Arr Ideal) (r : Fin 32) (c : ℕ) : EReal := X (ix2 r ⟨c % 1000000, Nat.mod_lt _ (by decide)⟩)
/-- The row's greatest entry. -/
def rowTop (X : Arr Ideal) (r : Fin 32) : EReal := top (cell X r) 1000000
/-- The exponentials of the row less its greatest entry, and their sum. -/
def rowExp (X : Arr Ideal) (r : Fin 32) (c : ℕ) : EReal := Ideal.exp (cell X r c - rowTop X r)
def rowSum (X : Arr Ideal) (r : Fin 32) : EReal := total (rowExp X r) 1000000

section
variable (X : Arr Ideal) (i : Coord)

/-- Row `p` of the core's group `g`. -/
def rowOf (g : Fin 2) (p : Fin 8) : Fin 32 := ⟨((i 0).val * 2 + g.val) * 8 + p.val, by have := core_lt i; omega⟩
/-- Trip `t` of group `g`. -/
def tripOf (g : Fin 2) (t : ℕ) (ht : t < 24) : Trip := ⟨24 * g.val + t, by rw [trips_eq]; omega⟩

/-- What a job's slot holds, row by row. -/
theorem slotRow_job (g : Fin 2) (t : ℕ) (ht : t < 24) (p : Fin 8) (q : ℕ) (hq : q < 125504) :
    slotRow (slotOf (slot (jobOf (tripOf g t ht))) (jobPart X i (jobOf (tripOf g t ht)))) p q
      = cell X (rowOf i g p) (t % 8 * 124928 + q) := by
  have hg := g.isLt
  have e : ∀ (r r' : Fin 32) (c c' : Fin 1000000), r = r' → c = c' → X (ix2 r c) = X (ix2 r' c') := by rintro r _ c _ rfl rfl; rfl
  refine e _ _ _ _ (Fin.ext ?_) (Fin.ext ?_)
  · show ((i 0).val * 2 + (8 * ((24 * g.val + t) / 24) + (24 * g.val + t) % 8) / 8) * 8 + p.val = ((i 0).val * 2 + g.val) * 8 + p.val
    omega
  · show (8 * ((24 * g.val + t) / 24) + (24 * g.val + t) % 8) % 8 * 124928 + q % 125504 = (t % 8 * 124928 + q) % 1000000
    have h1 : (8 * ((24 * g.val + t) / 24) + (24 * g.val + t) % 8) % 8 = t % 8 := by omega
    have h2 : t % 8 * 124928 + q < 1000000 := by omega
    rw [h1, Nat.mod_eq_of_lt hq, Nat.mod_eq_of_lt h2]

theorem width_le (k : Trip) : width k ≤ 125504 := by unfold width; split <;> omega

/-- Pieces joined: the columns up to and with chunk `c`'s. -/
theorem width_upto (g : Fin 2) (t : ℕ) (ht : t < 24) :
    t % 8 * 124928 + width (tripOf g t ht) = if t % 8 = 7 then 1000000 else (t % 8 + 1) * 124928 := by
  have hk : (tripOf g t ht).val % 8 = t % 8 := by show (24 * g.val + t) % 8 = t % 8; omega
  unfold width
  rw [hk]
  split <;> omega

/-- The running maximum after chunk `c`'s trip of the first phase. -/
theorem mAt_chunk (g : Fin 2) (p : Fin 8) (c : ℕ) (hc : c < 8) :
    mAt X i (24 * g.val + c + 1) (ix2 p z1) = top (cell X (rowOf i g p)) (if c = 7 then 1000000 else (c + 1) * 124928) := by
  have hw := width_upto g c (by omega)
  rw [Nat.mod_eq_of_lt hc] at hw
  have hp : phase (tripOf g c (by omega)) = 0 := by show (24 * g.val + c) % 24 / 8 = 0; omega
  have hk : (tripOf g c (by omega)).val % 8 = c := by show (24 * g.val + c) % 8 = c; omega
  have hs : ∀ q, q < width (tripOf g c (by omega)) →
      slotRow (slotOf (slot (jobOf (tripOf g c (by omega)))) (jobPart X i (jobOf (tripOf g c (by omega))))) p q = cell X (rowOf i g p) (c * 124928 + q) := by
    intro q hq
    have h := slotRow_job X i g c (by omega) p q (lt_of_lt_of_le hq (width_le _))
    rwa [Nat.mod_eq_of_lt hc] at h
  have hm := mAt_max X i (tripOf g c (by omega)) hp
  have hv := congrFun hm (ix2 p z1)
  refine Eq.trans hv ?_
  rw [pay1_at, hk, top_congr _ hs, ← hw, top_add]
  by_cases h0 : c = 0
  · subst h0
    rw [if_pos rfl, Nat.zero_mul, top_zero, max_bot_left]
  · rw [if_neg h0]
    obtain ⟨d, rfl⟩ := Nat.exists_eq_succ_of_ne_zero h0
    have ih := mAt_chunk g p d (by omega)
    rw [if_neg (by omega)] at ih
    exact congrArg (fun x => max x _) ih

/-- The maximum is kept to the end of the group. -/
theorem mAt_held (g : Fin 2) (p : Fin 8) (d : ℕ) (hd : d ≤ 16) : mAt X i (24 * g.val + (8 + d)) (ix2 p z1) = rowTop X (rowOf i g p) := by
  induction d with
  | zero => exact (mAt_chunk X i g p 7 (by omega)).trans (by rw [if_pos rfl]; rfl)
  | succ d ih =>
    have hp : phase (tripOf g (8 + d) (by omega)) ≠ 0 := by show ¬ (24 * g.val + (8 + d)) % 24 / 8 = 0; omega
    have h := congrFun (mAt_keep X i (tripOf g (8 + d) (by omega)) hp) (ix2 p z1)
    exact (show mAt X i (24 * g.val + (8 + (d + 1))) (ix2 p z1) = mAt X i (24 * g.val + (8 + d)) (ix2 p z1) from h).trans (ih (by omega))

/-- The running sum after chunk `c`'s trip of the second phase. -/
theorem sAt_chunk (g : Fin 2) (p : Fin 8) (c : ℕ) (hc : c < 8) :
    sAt X i (24 * g.val + (8 + c) + 1) (ix2 p z1) = total (rowExp X (rowOf i g p)) (if c = 7 then 1000000 else (c + 1) * 124928) := by
  have hw := width_upto g (8 + c) (by omega)
  have hc8 : (8 + c) % 8 = c := by omega
  rw [hc8] at hw
  have hp : phase (tripOf g (8 + c) (by omega)) = 1 := by show (24 * g.val + (8 + c)) % 24 / 8 = 1; omega
  have hk : (tripOf g (8 + c) (by omega)).val % 8 = c := by show (24 * g.val + (8 + c)) % 8 = c; omega
  have hs : ∀ q, q < width (tripOf g (8 + c) (by omega)) →
      expRow (slotOf (slot (jobOf (tripOf g (8 + c) (by omega)))) (jobPart X i (jobOf (tripOf g (8 + c) (by omega))))) (mAt X i (tripOf g (8 + c) (by omega)).val) p q
        = rowExp X (rowOf i g p) (c * 124928 + q) := by
    intro q hq
    have h := slotRow_job X i g (8 + c) (by omega) p q (lt_of_lt_of_le hq (width_le _))
    rw [hc8] at h
    have hm := mAt_held X i g p c (by omega)
    exact congrArg Ideal.exp (congrArg₂ (fun x y : EReal => x - y) h hm)
  have hv := congrFun (sAt_sum X i (tripOf g (8 + c) (by omega)) hp) (ix2 p z1)
  refine Eq.trans hv ?_
  rw [pay2_at, hk, total_congr _ hs, ← hw, total_add]
  by_cases h0 : c = 0
  · subst h0
    rw [if_pos rfl, Nat.zero_mul, total_zero, zero_add]
  · rw [if_neg h0]
    obtain ⟨d, rfl⟩ := Nat.exists_eq_succ_of_ne_zero h0
    have ih := sAt_chunk g p d (by omega)
    rw [if_neg (by omega)] at ih
    exact congrArg (fun x : EReal => x + _) ih

/-- The sum is kept to the end of the group. -/
theorem sAt_held (g : Fin 2) (p : Fin 8) (d : ℕ) (hd : d ≤ 8) : sAt X i (24 * g.val + (16 + d)) (ix2 p z1) = rowSum X (rowOf i g p) := by
  induction d with
  | zero => exact (sAt_chunk X i g p 7 (by omega)).trans (by rw [if_pos rfl]; rfl)
  | succ d ih =>
    have hp : phase (tripOf g (16 + d) (by omega)) ≠ 1 := by show ¬ (24 * g.val + (16 + d)) % 24 / 8 = 1; omega
    have h := congrFun (sAt_keep X i (tripOf g (16 + d) (by omega)) hp) (ix2 p z1)
    exact (show sAt X i (24 * g.val + (16 + (d + 1))) (ix2 p z1) = sAt X i (24 * g.val + (16 + d)) (ix2 p z1) from h).trans (ih (by omega))

end

/-- An entry of the output: the exponential times the reciprocal of the sum. -/
theorem outArr_at (X : Arr Ideal) (r : Fin 32) (c : Fin 1000000) :
    outArr X (ix2 r c) = rowExp X r c.val * Ideal.div 1 (rowSum X r) := by
  obtain ⟨n, hn⟩ : ∃ n : Fin 2, n.val = r.val / 16 := ⟨⟨r.val / 16, by omega⟩, rfl⟩
  obtain ⟨g, hg⟩ : ∃ g : Fin 2, g.val = r.val / 8 % 2 := ⟨⟨r.val / 8 % 2, by omega⟩, rfl⟩
  obtain ⟨p, hp⟩ : ∃ p : Fin 8, p.val = r.val % 8 := ⟨⟨r.val % 8, by omega⟩, rfl⟩
  obtain ⟨d, hd⟩ : ∃ d : Fin 8, d.val = min (c.val / 124928) 7 := ⟨⟨min (c.val / 124928) 7, by omega⟩, rfl⟩
  obtain ⟨q, hq⟩ : ∃ q : Fin 125504, q.val = c.val - d.val * 124928 := ⟨⟨c.val - d.val * 124928, by omega⟩, rfl⟩
  have hr : rowOf (coreOf n) g p = r := Fin.ext (by show (n.val * 2 + g.val) * 8 + p.val = r.val; omega)
  have ho : outArr X (ix2 r c) = outCell X n ⟨g.val * 8 + d.val, by omega⟩ p q := by
    have e : ∀ (n n' : Fin 2) (a a' : Fin 16) (p p' : Fin 8) (q q' : Fin 125504), n = n' → a = a' → p = p' → q = q' →
        outCell X n a p q = outCell X n' a' p' q' := by rintro n _ a _ p _ q _ rfl rfl rfl rfl; rfl
    unfold outArr
    refine e _ _ _ _ _ _ _ _ (Fin.ext ?_) (Fin.ext ?_) (Fin.ext ?_) (Fin.ext ?_)
    · exact hn.symm
    · show r.val / 8 % 2 * 8 + min (c.val / 124928) 7 = g.val * 8 + d.val
      omega
    · exact hp.symm
    · show c.val - min (c.val / 124928) 7 * 124928 = q.val
      omega
  have hj : jobOf (tripOf g (16 + d.val) (by omega)) = ⟨g.val * 8 + d.val, by omega⟩ :=
    Fin.ext (by show 8 * ((24 * g.val + (16 + d.val)) / 24) + (24 * g.val + (16 + d.val)) % 8 = g.val * 8 + d.val; omega)
  have ht : tripOut ⟨g.val * 8 + d.val, by omega⟩ = 24 * g.val + (16 + d.val) := by
    show 24 * ((g.val * 8 + d.val) / 8) + (g.val * 8 + d.val) % 8 + 16 = _
    omega
  rw [ho]
  unfold outCell outAt
  refine (pay3_at _ _ _ p q).trans ?_
  rw [ht]
  have hs := slotRow_job X (coreOf n) g (16 + d.val) (by omega) p q.val q.isLt
  rw [hj, hr] at hs
  have hcol : (16 + d.val) % 8 * 124928 + q.val = c.val := by omega
  rw [hcol] at hs
  have hm := mAt_held X (coreOf n) g p (8 + d.val) (by omega)
  have hS := sAt_held X (coreOf n) g p d.val (by omega)
  rw [hr] at hm hS
  rw [show 24 * g.val + (8 + (8 + d.val)) = 24 * g.val + (16 + d.val) by omega] at hm
  unfold expRow
  rw [hs, hm, hS]
  rfl

end Cert.Run.Kernel
-- ==== Proof.Softmax.Reference.lean ====
/-
  The reference over the extended reals, entry by entry: the exponential of the entry less its row's greatest entry,
  divided by the sum of these exponentials.
-/
module

public import proofs.«01_k».proof.Pre_finite_row_maxima
public import proofs.«01_k».proof.Proof.Gen.ReferenceIdeal
public import proofs.«01_k».proof.Proof.Softmax.Accum

@[expose] public section

set_option maxRecDepth 16384

noncomputable section

namespace Cert.Run.Softmax

open Idealize.ShloMosaic
open Idealize.ShloMosaic.ValueIdx (ix0 ix1 ix2 eq_ix1 eq_ix2)
open Cert.Run.Row Cert.Run.Kernel
open Cert.ReferenceIdeal Cert.ReferenceIdeal.Gen

/-- A reduction over the columns, by its kept and dropped coordinates. -/
theorem reduces : Shape.Reduces S32x1000000 [1] S32 := by decide
theorem lift_eq (r : Fin 32) (k : Fin 1000000) : reduces.lift (ix1 r) k = ix2 r k := by
  funext a
  match a with
  | ⟨0, _⟩ => rfl
  | ⟨1, _⟩ => rfl
theorem cell_fin (X : Arr Ideal) (r : Fin 32) (c : Fin 1000000) : X (ix2 r c) = cell X r c.val :=
  congrArg (fun c => X (ix2 r c)) (Fin.ext (Nat.mod_eq_of_lt c.isLt).symm)

/-- The host's maximum of a row is the greatest entry of the row. -/
theorem host_top (D : FVec Ideal S32x1000000 .f32) (X : Arr Ideal) (h : D = X) (h' : S32x1000000.ReducesTo [1] S32) (hu : 0 < S_.numel) (r : Fin 32) :
    Host.reduce FloatOps.maximumf D (constant (F := Ideal) S_ .f32 0xFF800000#32) h' hu (ix1 r) = rowTop X r := by
  subst h
  refine (Host.reduce_eq_fold_single _ D _ h' reduces hu (ix1 r)).trans ?_
  refine fold_top _ (cell D r) _ ofBits_bot fun k => ?_
  exact (congrArg D (lift_eq r k)).trans (cell_fin D r k)

/-- A column of rows spread over the columns. -/
theorem spread {α : Type} (m : S32.Idx → α) (r : Fin 32) (c : Fin 1000000) :
    broadcastInDim S32x1000000 ![0, 1] bcast_S32x1_S32x1000000_0_1 (broadcastInDim S32x1 ![0] bcast_S32_S32x1_0 m) (ix2 r c) = m (ix1 r) := by
  refine (broadcastInDim_apply _ _ _ _ (ix2 r z1) fun a => ?_).trans (broadcastInDim_apply _ _ _ _ (ix1 r) fun a => ?_)
  · match a with
    | ⟨0, _⟩ => rfl
    | ⟨1, _⟩ => rfl
  · match a with
    | ⟨0, _⟩ => rfl

/-- Division by one. -/
theorem host_div_one (X : FVec Ideal S32x1000000 .f32) :
    Host.divf X (broadcastInDim S32x1000000 ![] bcast_S_S32x1000000 (constant (F := Ideal) S_ .f32 0x3F800000#32)) = X := by
  funext y
  refine Eq.trans (congrArg (Ideal.div (X y)) ?_) (div_one (X y))
  exact (ValueIdx.broadcastInDim_scalar_apply _ _ y).trans Ideal.ofBits_one_f32

section
variable (X : Arr Ideal)

/-- The greatest entry of each row, as the reference takes it. -/
theorem host_max (r : Fin 32) :
    maximumf (F := Ideal) (φ := .f32) (broadcastInDim S32 ![] bcast_S_S32 (constant (F := Ideal) S_ .f32 0xFF800000#32))
      (Host.reduce FloatOps.maximumf X (constant (F := Ideal) S_ .f32 0xFF800000#32) reducesTo_S32x1000000_S32_d1 h_S_) (ix1 r) = rowTop X r := by
  have h1 : broadcastInDim S32 ![] bcast_S_S32 (constant (F := Ideal) S_ .f32 0xFF800000#32) (ix1 r) = (⊥ : EReal) :=
    (ValueIdx.broadcastInDim_scalar_apply _ _ _).trans ofBits_bot
  refine (ValueIdx.maximumf_apply _ _ _).trans ?_
  rw [h1, host_top X X rfl reducesTo_S32x1000000_S32_d1 h_S_ r]
  exact max_bot_left _

/-- The exponentials, as the reference takes them. -/
theorem host_exp (m : S32.Idx → EReal) (hm : ∀ r, m (ix1 r) = rowTop X r) (r : Fin 32) (c : Fin 1000000) :
    Host.exp (F := Ideal) (φ := .f32) (subf X (broadcastInDim S32x1000000 ![0, 1] bcast_S32x1_S32x1000000_0_1 (broadcastInDim S32x1 ![0] bcast_S32_S32x1_0 m))) (ix2 r c)
      = rowExp X r c.val :=
  congrArg Ideal.exp (congrArg₂ (fun x y : EReal => x - y) (cell_fin X r c) ((spread m r c).trans (hm r)))

/-- The sum of each row of an array, as the reference takes it. -/
theorem host_sum (E : FVec Ideal S32x1000000 .f32) (f : ℕ → EReal) (r : Fin 32) (h : ∀ c : Fin 1000000, E (ix2 r c) = f c.val) :
    Host.reduceAdd E (constant (F := Ideal) S_ .f32 0x00000000#32) reducesTo_S32x1000000_S32_d1 h_S_ (ix1 r) = total f 1000000 := by
  refine (Ideal.hostReduceAdd_single _ reduces E _ (ix1 r)).trans ?_
  have h0 : constant (F := Ideal) S_ .f32 0x00000000#32 (Shape.Idx.first h_S_) = (0 : EReal) := Ideal.ofBits_zero_f32
  rw [h0, zero_add]
  exact sum_total _ f fun k => (congrArg E (lift_eq r k)).trans (h k)

/-- The reference's quotient, entry by entry. -/
theorem host_quotient (m : S32.Idx → EReal) (hm : ∀ r, m (ix1 r) = rowTop X r) (E : FVec Ideal S32x1000000 .f32)
    (hE : E = Host.exp (F := Ideal) (φ := .f32) (subf X (broadcastInDim S32x1000000 ![0, 1] bcast_S32x1_S32x1000000_0_1 (broadcastInDim S32x1 ![0] bcast_S32_S32x1_0 m))))
    (r : Fin 32) (c : Fin 1000000) :
    Host.divf E (broadcastInDim S32x1000000 ![0, 1] bcast_S32x1_S32x1000000_0_1 (broadcastInDim S32x1 ![0] bcast_S32_S32x1_0
      (Host.reduceAdd E (constant (F := Ideal) S_ .f32 0x00000000#32) reducesTo_S32x1000000_S32_d1 h_S_))) (ix2 r c)
      = Ideal.div (rowExp X r c.val) (rowSum X r) := by
  have h : ∀ r c, E (ix2 r c) = rowExp X r c.val := fun r c => by rw [hE]; exact host_exp X m hm r c
  refine (ValueIdx.hostDivf_apply _ _ _).trans ?_
  rw [h r c, spread, host_sum E (rowExp X r) r (h r)]
  unfold rowSum
  rfl

/-- The precondition's facts about shapes. -/
theorem pre_facts : Cert.Pre_finite_row_maxima.Facts :=
  ⟨reducesTo_S32x1000000_S32_d1, h_S_, bcast_S_S32⟩

/-- Two comparisons joined, read at a row. -/
theorem between_at (a b d : FVec Ideal S32 .f32) (r : Fin 32) :
    andi (cmpf .ogt a b) (cmpf .olt a d) (ix1 r) = Ideal.cmp .ogt (a (ix1 r)) (b (ix1 r)) &&& Ideal.cmp .olt (a (ix1 r)) (d (ix1 r)) := rfl
/-- A number that compares above the bottom and below the top is finite. -/
theorem finite_of_between (x : EReal) (h : Ideal.cmp .ogt x ⊥ &&& Ideal.cmp .olt x ⊤ = 1#1) : x ≠ ⊥ ∧ x ≠ ⊤ := by
  constructor
  · rintro rfl
    revert h
    simp [Ideal.cmp]
  · rintro rfl
    revert h
    simp [Ideal.cmp]

/-- The precondition says that the greatest entry of every row is finite. -/
theorem pre_row [Cert.Pre_finite_row_maxima.Facts] (h : Cert.Pre_finite_row_maxima.fn (F := Ideal) X = fun _ => 1#1) (r : Fin 32) :
    rowTop X r ≠ ⊥ ∧ rowTop X r ≠ ⊤ := by
  have hb : broadcastInDim S32 ![] bcast_S_S32 (constant (F := Ideal) S_ .f32 0xFF800000#32) (ix1 r) = (⊥ : EReal) :=
    (ValueIdx.broadcastInDim_scalar_apply _ _ _).trans ofBits_bot
  have ht : broadcastInDim S32 ![] bcast_S_S32 (constant (F := Ideal) S_ .f32 0x7F800000#32) (ix1 r) = (⊤ : EReal) :=
    (ValueIdx.broadcastInDim_scalar_apply _ _ _).trans ofBits_top
  have hm := host_top X X rfl reducesTo_S32x1000000_S32_d1 h_S_ r
  have e : andi (cmpf .ogt (Host.reduce FloatOps.maximumf X (constant (F := Ideal) S_ .f32 0xFF800000#32) reducesTo_S32x1000000_S32_d1 h_S_)
        (broadcastInDim S32 ![] bcast_S_S32 (constant (F := Ideal) S_ .f32 0xFF800000#32)))
      (cmpf .olt (Host.reduce FloatOps.maximumf X (constant (F := Ideal) S_ .f32 0xFF800000#32) reducesTo_S32x1000000_S32_d1 h_S_)
        (broadcastInDim S32 ![] bcast_S_S32 (constant (F := Ideal) S_ .f32 0x7F800000#32))) (ix1 r) = 1#1 := congrFun h (ix1 r)
  rw [between_at, hm, hb, ht] at e
  exact finite_of_between _ e

/-- The sum of the exponentials is not zero where the row's greatest entry is finite. -/
theorem rowSum_ne_zero (r : Fin 32) (h : rowTop X r ≠ ⊥ ∧ rowTop X r ≠ ⊤) : rowSum X r ≠ 0 :=
  total_exp_ne_zero (cell X r) 1000000 h.1 h.2

/-- The reference's result is the kernel's output array. -/
theorem reference_eq (hX : ∀ r, rowTop X r ≠ ⊥ ∧ rowTop X r ≠ ⊤) :
    Host.divf (Host.exp (subf (Host.divf (X : FVec Ideal S32x1000000 .f32) (broadcastInDim S32x1000000 ![] bcast_S_S32x1000000 (constant (F := Ideal) S_ .f32 0x3F800000#32))) (broadcastInDim S32x1000000 ![0, 1] bcast_S32x1_S32x1000000_0_1 (broadcastInDim S32x1 ![0] bcast_S32_S32x1_0 (maximumf (broadcastInDim S32 ![] bcast_S_S32 (constant (F := Ideal) S_ .f32 0xFF800000#32)) (Host.reduce FloatOps.maximumf (Host.divf (X : FVec Ideal S32x1000000 .f32) (broadcastInDim S32x1000000 ![] bcast_S_S32x1000000 (constant (F := Ideal) S_ .f32 0x3F800000#32))) (constant (F := Ideal) S_ .f32 0xFF800000#32) reducesTo_S32x1000000_S32_d1 h_S_)))))) (broadcastInDim S32x1000000 ![0, 1] bcast_S32x1_S32x1000000_0_1 (broadcastInDim S32x1 ![0] bcast_S32_S32x1_0 (Host.reduceAdd (Host.exp (subf (Host.divf (X : FVec Ideal S32x1000000 .f32) (broadcastInDim S32x1000000 ![] bcast_S_S32x1000000 (constant (F := Ideal) S_ .f32 0x3F800000#32))) (broadcastInDim S32x1000000 ![0, 1] bcast_S32x1_S32x1000000_0_1 (broadcastInDim S32x1 ![0] bcast_S32_S32x1_0 (maximumf (broadcastInDim S32 ![] bcast_S_S32 (constant (F := Ideal) S_ .f32 0xFF800000#32)) (Host.reduce FloatOps.maximumf (Host.divf (X : FVec Ideal S32x1000000 .f32) (broadcastInDim S32x1000000 ![] bcast_S_S32x1000000 (constant (F := Ideal) S_ .f32 0x3F800000#32))) (constant (F := Ideal) S_ .f32 0xFF800000#32) reducesTo_S32x1000000_S32_d1 h_S_)))))) (constant (F := Ideal) S_ .f32 0x00000000#32) reducesTo_S32x1000000_S32_d1 h_S_))) = outArr X := by
  rw [host_div_one]
  funext y
  rw [eq_ix2 y]
  refine (host_quotient X _ (host_max X) _ rfl (y 0) (y 1)).trans ?_
  exact ((outArr_at X (y 0) (y 1)).trans (Ideal.mul_one_div (rowSum_ne_zero X (y 0) (hX (y 0))))).symm

end

end Cert.Run.Softmax
-- ==== Proof.lean ====
/-
  The proof of `Cert.Claim`: the claims from the kernel's run, the reference's run and the arithmetic that joins them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.Softmax.Reference

@[expose] public section

noncomputable section

namespace Cert.Run.Final

open Idealize.ShloMosaic Idealize.SL.Sem

/-- The kernel as compiled ends with its argument unchanged and every counter at zero. -/
theorem kernel_frame : Cert.quiescent_Kernel (hKernel := Cert.Kernel.Gen.facts) := fun m g _ =>
  (θ_run _ _ _).mono (fun r h => ⟨fun c => (h.1 c).2, h.2⟩) (Cert.Run.Kernel.run_main (F := Bits) m g)

/-- The kernel over the extended reals is the same text as the kernel as compiled, so its run is that run, with the
    floats read as extended reals: the result is `outArr` of the argument. -/
theorem ideal_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v0) = Cert.Run.Kernel.outArr (Cert.Run.Kernel.argOf m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0) :=
  Cert.Run.Kernel.run_main (F := Ideal) m g

/-- The kernel over the extended reals ends with its argument unchanged and every counter at zero. -/
theorem ideal_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
        ∧ r.2.sem = fun _ => 0) :=
  (θ_run _ _ _).mono (fun r h => ⟨fun c => (h.1 c).2, h.2⟩) (ideal_run m g)

/-- The same of the reference, which has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run (F := Ideal) m g)

/-- Kernel and reference end with one and the same array. -/
theorem values_agree : Cert.algebraic_KernelIdeal_ReferenceIdeal_pre_finite_row_maxima (hKernelIdeal := Cert.KernelIdeal.Gen.facts)
    (hReferenceIdeal := Cert.ReferenceIdeal.Gen.facts) (hPre_finite_row_maxima := Cert.Run.Softmax.pre_facts) := by
  intro m g m' g' hpre hm
  letI := Cert.Run.Softmax.pre_facts
  refine ⟨fun c => Cert.Run.Kernel.outArr (Cert.Run.Kernel.argOf m c), ?_, ?_⟩
  · exact (θ_run _ _ _).mono (fun r h => h.1) (ideal_run m g)
  · refine (θ_run _ _ _).mono (fun r h c => ⟨(h c).1.trans ?_, (h c).2⟩) (Cert.ReferenceIdeal.Value.run (F := Ideal) m' g')
    rw [hm c]
    exact Cert.Run.Softmax.reference_eq _ (Cert.Run.Softmax.pre_row _ (hpre c))

end Cert.Run.Final

theorem Cert.Proof.claim : Cert.Claim :=
  ⟨Cert.Kernel.Gen.facts, Cert.KernelIdeal.Gen.facts, Cert.ReferenceIdeal.Gen.facts, Cert.Run.Softmax.pre_facts,
    Cert.Run.Final.kernel_frame, fun m g _ => Cert.Run.Final.ideal_frame m g, fun m g _ => Cert.Run.Final.ideal_frame m g,
    fun m g _ => Cert.Run.Final.reference_frame m g, fun m g _ => Cert.Run.Final.reference_frame m g, trivial,
    Cert.Run.Final.values_agree⟩

end
